-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_lengths [hPre_lengths : Cert.Pre_lengths.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_lengths.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_lengths [hPre_lengths : Cert.Pre_lengths.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_lengths.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_lengths [hKernel4Ideal : Cert.Kernel4Ideal.Facts] [hPre_lengths : Cert.Pre_lengths.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_lengths m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_lengths [hReference4Ideal : Cert.Reference4Ideal.Facts] [hPre_lengths : Cert.Pre_lengths.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_lengths m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v71)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v71) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_lengths [hKernel4Ideal : Cert.Kernel4Ideal.Facts] [hReference4Ideal : Cert.Reference4Ideal.Facts] [hPre_lengths : Cert.Pre_lengths.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_lengths m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_lengths : Cert.Pre_lengths.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_lengths (hKernel4Ideal := hKernel4Ideal) (hPre_lengths := hPre_lengths)
    ∧ quiescent_Reference4Ideal (hReference4Ideal := hReference4Ideal)
    ∧ quiescent_Reference4Ideal_pre_lengths (hReference4Ideal := hReference4Ideal) (hPre_lengths := hPre_lengths)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_lengths (hKernel4Ideal := hKernel4Ideal) (hReference4Ideal := hReference4Ideal) (hPre_lengths := hPre_lengths)
-- ==== Pre_lengths.lean ====
abbrev S256x64x256 : Shape := ⟨3, ![256, 64, 256]⟩
abbrev S64x256 : Shape := ⟨2, ![64, 256]⟩
abbrev S64 : Shape := ⟨1, ![64]⟩
abbrev S256x128 : Shape := ⟨2, ![256, 128]⟩
abbrev S128 : Shape := ⟨1, ![128]⟩
abbrev S128x17 : Shape := ⟨2, ![128, 17]⟩
abbrev S17 : Shape := ⟨1, ![17]⟩
abbrev S17x17 : Shape := ⟨2, ![17, 17]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S256x64x256 .bf16) (main_arg1 : IVec S64x256 32) (main_arg2 : IVec S64 32) (main_arg3 : FVec F S256x128 .f32) (main_arg4 : FVec F S128 .f32) (main_arg5 : FVec F S128x17 .f32) (main_arg6 : FVec F S17 .f32) (main_arg7 : FVec F S17 .f32) (main_arg8 : FVec F S17 .f32) (main_arg9 : FVec F S17x17 .f32) : IVec S_ 1 :=
  let main_c : IVec S_ 32 := constantI S_ 32 0#32
  let main_v0 : IVec S64 32 := broadcastInDim S64 ![] bcast_S_S64 main_c
  let main_v1 : IVec S64 1 := cmpi .sge main_arg2 main_v0
  let main_c_0 : IVec S_ 32 := constantI S_ 32 256#32
  let main_v2 : IVec S64 32 := broadcastInDim S64 ![] bcast_S_S64 main_c_0
  let main_v3 : IVec S64 1 := cmpi .sle main_arg2 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  main_v5
-- ==== Kernel.lean ====
abbrev S8x32x64x330 : Shape := ⟨4, ![8, 32, 64, 330]⟩
abbrev S2x330x384 : Shape := ⟨3, ![2, 330, 384]⟩
abbrev S2x128x384 : Shape := ⟨3, ![2, 128, 384]⟩
abbrev S2x1x384 : Shape := ⟨3, ![2, 1, 384]⟩
abbrev S64x128 : Shape := ⟨2, ![64, 128]⟩
abbrev S8x32x64x128 : Shape := ⟨4, ![8, 32, 64, 128]⟩
abbrev S1x32x64x330 : Shape := ⟨4, ![1, 32, 64, 330]⟩
abbrev S1x32x64x128 : Shape := ⟨4, ![1, 32, 64, 128]⟩
abbrev S32x64x384 : Shape := ⟨3, ![32, 64, 384]⟩
abbrev S32x64x330 : Shape := ⟨3, ![32, 64, 330]⟩
abbrev S2048x330 : Shape := ⟨2, ![2048, 330]⟩
abbrev S1x330x384 : Shape := ⟨3, ![1, 330, 384]⟩
abbrev S330x384 : Shape := ⟨2, ![330, 384]⟩
abbrev S2048x384 : Shape := ⟨2, ![2048, 384]⟩
abbrev S1x1x384 : Shape := ⟨3, ![1, 1, 384]⟩
abbrev S1x384 : Shape := ⟨2, ![1, 384]⟩
abbrev S1x64x384 : Shape := ⟨3, ![1, 64, 384]⟩
abbrev S64x384 : Shape := ⟨2, ![64, 384]⟩
abbrev S1x128x384 : Shape := ⟨3, ![1, 128, 384]⟩
abbrev S128x384 : Shape := ⟨2, ![128, 384]⟩
abbrev S1x1x64x128 : Shape := ⟨4, ![1, 1, 64, 128]⟩

abbrev nBuf : Space → Nat
  | .hbm => 8
  | .vmem => 17
  | .smem => 0
  | _ => 0

abbrev bufTy : (tb : Table) → Fin (tcTables nBuf tb) → BufTy
  | .hbm, ⟨0, _⟩ => ⟨S8x32x64x330, .bf16⟩
  | .hbm, ⟨1, _⟩ => ⟨S2x330x384, .bf16⟩
  | .hbm, ⟨2, _⟩ => ⟨S2x128x384, .bf16⟩
  | .hbm, ⟨3, _⟩ => ⟨S2x1x384, .f32⟩
  | .hbm, ⟨4, _⟩ => ⟨S2x1x384, .f32⟩
  | .hbm, ⟨5, _⟩ => ⟨S64x128, .f32⟩
  | .hbm, ⟨6, _⟩ => ⟨S8x32x64x128, .f32⟩
  | .hbm, ⟨7, _⟩ => ⟨S8x32x64x128, .f32⟩
  | .local _ .vmem, ⟨0, _⟩ => ⟨S1x32x64x330, .bf16⟩
  | .local _ .vmem, ⟨1, _⟩ => ⟨S1x32x64x330, .bf16⟩
  | .local _ .vmem, ⟨2, _⟩ => ⟨S1x32x64x330, .bf16⟩
  | .local _ .vmem, ⟨3, _⟩ => ⟨S1x32x64x330, .bf16⟩
  | .local _ .vmem, ⟨4, _⟩ => ⟨S2x330x384, .bf16⟩
  | .local _ .vmem, ⟨5, _⟩ => ⟨S2x128x384, .bf16⟩
  | .local _ .vmem, ⟨6, _⟩ => ⟨S2x1x384, .f32⟩
  | .local _ .vmem, ⟨7, _⟩ => ⟨S2x1x384, .f32⟩
  | .local _ .vmem, ⟨8, _⟩ => ⟨S64x128, .f32⟩
  | .local _ .vmem, ⟨9, _⟩ => ⟨S1x32x64x128, .f32⟩
  | .local _ .vmem, ⟨10, _⟩ => ⟨S1x32x64x128, .f32⟩
  | .local _ .vmem, ⟨11, _⟩ => ⟨S1x32x64x128, .f32⟩
  | .local _ .vmem, ⟨12, _⟩ => ⟨S1x32x64x128, .f32⟩
  | .local _ .vmem, ⟨13, _⟩ => ⟨S32x64x384, .f32⟩
  | .local _ .vmem, ⟨14, _⟩ => ⟨S32x64x384, .f32⟩
  | .local _ .vmem, ⟨15, _⟩ => ⟨S64x128, .f32⟩
  | .local _ .vmem, ⟨16, _⟩ => ⟨S64x128, .f32⟩
  | _, _ => ⟨S8x32x64x330, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_29 : BitVec 32 := 0#32
  let c32_i32_30 : BitVec 32 := 32#32
  let v35 : BitVec 32 := Scalar.addi c0_i32_29 c32_i32_30
  let c1_i32 : BitVec 32 := 1#32
  ⟨c0_i32_29, v35, c1_i32⟩
def k0_off1 (k0_t1 : Fin k0_t1_loop.trips) : Fin 3 → Nat :=
  let c0_i32_29 : BitVec 32 := 0#32
  let c1_i32 : BitVec 32 := 1#32
  let arg14 : BitVec 32 := Scf.iv c0_i32_29 c1_i32 k0_t1
  let v36 : Index := Scalar.indexCast arg14
  let c0_32 : Index := 0#32
  let c0_33 : Index := 0#32
  ![v36.toNat, 0, 0]
def k0_off2 (k0_t1 : Fin k0_t1_loop.trips) : Fin 4 → Nat :=
  let c0_45 : Index := 0#32
  let c0_i32_29 : BitVec 32 := 0#32
  let c1_i32 : BitVec 32 := 1#32
  let arg14 : BitVec 32 := Scf.iv c0_i32_29 c1_i32 k0_t1
  let v72 : Index := Scalar.indexCast arg14
  let c0_46 : Index := 0#32
  let c0_47 : Index := 0#32
  ![0, v72.toNat, 0, 0]
def k0_off3 (k0_t1 : Fin k0_t1_loop.trips) : Fin 3 → Nat :=
  let c31_i32 : BitVec 32 := 31#32
  let c0_i32_29 : BitVec 32 := 0#32
  let c1_i32 : BitVec 32 := 1#32
  let arg14 : BitVec 32 := Scf.iv c0_i32_29 c1_i32 k0_t1
  let v76 : BitVec 32 := Scalar.subi c31_i32 arg14
  let v77 : Index := Scalar.indexCast v76
  let c0_48 : Index := 0#32
  let c0_49 : Index := 0#32
  ![v77.toNat, 0, 0]
def k0_off4 (k0_t1 : Fin k0_t1_loop.trips) : Fin 4 → Nat :=
  let c0_61 : Index := 0#32
  let c31_i32 : BitVec 32 := 31#32
  let c0_i32_29 : BitVec 32 := 0#32
  let c1_i32 : BitVec 32 := 1#32
  let arg14 : BitVec 32 := Scf.iv c0_i32_29 c1_i32 k0_t1
  let v76 : BitVec 32 := Scalar.subi c31_i32 arg14
  let v113 : Index := Scalar.indexCast v76
  let c0_62 : Index := 0#32
  let c0_63 : Index := 0#32
  ![0, v113.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1x32x64x330 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64x330 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x330x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x32x64x330 : Shape := ⟨4, ![8, 32, 64, 330]⟩
abbrev S2x330x384 : Shape := ⟨3, ![2, 330, 384]⟩
abbrev S2x128x384 : Shape := ⟨3, ![2, 128, 384]⟩
abbrev S2x1x384 : Shape := ⟨3, ![2, 1, 384]⟩
abbrev S64x128 : Shape := ⟨2, ![64, 128]⟩
abbrev S256x64x330 : Shape := ⟨3, ![256, 64, 330]⟩
abbrev S256 : Shape := ⟨1, ![256]⟩
abbrev S256x1x1 : Shape := ⟨3, ![256, 1, 1]⟩
abbrev S1x64x128 : Shape := ⟨3, ![1, 64, 128]⟩
abbrev S256x64x128 : Shape := ⟨3, ![256, 64, 128]⟩
abbrev S1x330x384 : Shape := ⟨3, ![1, 330, 384]⟩
abbrev S330x384 : Shape := ⟨2, ![330, 384]⟩
abbrev S256x64x384 : Shape := ⟨3, ![256, 64, 384]⟩
abbrev S1x1x384 : Shape := ⟨3, ![1, 1, 384]⟩
abbrev S1x384 : Shape := ⟨2, ![1, 384]⟩
abbrev S_ : Shape := ⟨0, ![]⟩
abbrev S1x64x384 : Shape := ⟨3, ![1, 64, 384]⟩
abbrev S64x384 : Shape := ⟨2, ![64, 384]⟩
abbrev S1x128x384 : Shape := ⟨3, ![1, 128, 384]⟩
abbrev S128x384 : Shape := ⟨2, ![128, 384]⟩
abbrev S8x32x64x128 : Shape := ⟨4, ![8, 32, 64, 128]⟩

abbrev nBuf : Space → Nat
  | .hbm => 166
  | .vmem => 0
  | .smem => 0
  | _ => 0

abbrev hbmTy0_0 (i : Nat) : BufTy := match i % 128 with
  | 0 => ⟨S8x32x64x330, .bf16⟩
  | 1 => ⟨S2x330x384, .bf16⟩
  | 2 => ⟨S2x128x384, .bf16⟩
  | 3 => ⟨S2x1x384, .f32⟩
  | 4 => ⟨S2x1x384, .f32⟩
  | 5 => ⟨S64x128, .f32⟩
  | 6 => ⟨S8x32x64x330, .f32⟩
  | 7 => ⟨S256x64x330, .f32⟩
  | 8 => ⟨S2x330x384, .f32⟩
  | 9 => ⟨S2x128x384, .f32⟩
  | 10 => ⟨S256, .i32⟩
  | 11 => ⟨S256, .f32⟩
  | 12 => ⟨S256x1x1, .f32⟩
  | 13 => ⟨S1x64x128, .f32⟩
  | 14 => ⟨S256x64x128, .f32⟩
  | 15 => ⟨S256x64x128, .f32⟩
  | 16 => ⟨S256x64x128, .i1⟩
  | 17 => ⟨S1x330x384, .f32⟩
  | 18 => ⟨S330x384, .f32⟩
  | 19 => ⟨S256x64x384, .f32⟩
  | 20 => ⟨S1x1x384, .f32⟩
  | 21 => ⟨S1x384, .f32⟩
  | 22 => ⟨S1x1x384, .f32⟩
  | 23 => ⟨S256x64x384, .f32⟩
  | 24 => ⟨S256x64x384, .f32⟩
  | 25 => ⟨S1x330x384, .f32⟩
  | 26 => ⟨S330x384, .f32⟩
  | 27 => ⟨S256x64x384, .f32⟩
  | 28 => ⟨S1x1x384, .f32⟩
  | 29 => ⟨S1x384, .f32⟩
  | 30 => ⟨S1x1x384, .f32⟩
  | 31 => ⟨S256x64x384, .f32⟩
  | 32 => ⟨S256x64x384, .f32⟩
  | 33 => ⟨S_, .f32⟩
  | 34 => ⟨S64x128, .f32⟩
  | 35 => ⟨S256x64x384, .f32⟩
  | 36 => ⟨S256x64x128, .i1⟩
  | 37 => ⟨S_, .f32⟩
  | 38 => ⟨S256x64x128, .f32⟩
  | 39 => ⟨S_, .f32⟩
  | 40 => ⟨S256x64x128, .f32⟩
  | 41 => ⟨S_, .i32⟩
  | 42 => ⟨S256x64x384, .f32⟩
  | 43 => ⟨S256x64x128, .i1⟩
  | 44 => ⟨S256x64x384, .f32⟩
  | 45 => ⟨S256x64x128, .i1⟩
  | 46 => ⟨S2x128x384, .f32⟩
  | 47 => ⟨S2x1x384, .f32⟩
  | 48 => ⟨S_, .i32⟩
  | 49 => ⟨S64x128, .f32⟩
  | 50 => ⟨S64x128, .f32⟩
  | 51 => ⟨S256x64x128, .f32⟩
  | 52 => ⟨S256x64x128, .f32⟩
  | 53 => ⟨S_, .i32⟩
  | 54 => ⟨S_, .i1⟩
  | 55 => ⟨S_, .i32⟩
  | 56 => ⟨S_, .i32⟩
  | 57 => ⟨S1x64x384, .f32⟩
  | 58 => ⟨S64x384, .f32⟩
  | 59 => ⟨S_, .i32⟩
  | 60 => ⟨S_, .i32⟩
  | 61 => ⟨S1x64x128, .i1⟩
  | 62 => ⟨S64x128, .i1⟩
  | 63 => ⟨S_, .i32⟩
  | 64 => ⟨S_, .i32⟩
  | 65 => ⟨S1x64x384, .f32⟩
  | 66 => ⟨S64x384, .f32⟩
  | 67 => ⟨S_, .i32⟩
  | 68 => ⟨S_, .i32⟩
  | 69 => ⟨S1x64x128, .i1⟩
  | 70 => ⟨S64x128, .i1⟩
  | 71 => ⟨S1x128x384, .f32⟩
  | 72 => ⟨S128x384, .f32⟩
  | 73 => ⟨S1x1x384, .f32⟩
  | 74 => ⟨S1x384, .f32⟩
  | 75 => ⟨S64x384, .f32⟩
  | 76 => ⟨S64x384, .f32⟩
  | 77 => ⟨S64x384, .f32⟩
  | 78 => ⟨S64x128, .f32⟩
  | 79 => ⟨S64x128, .f32⟩
  | 80 => ⟨S64x128, .f32⟩
  | 81 => ⟨S64x128, .f32⟩
  | 82 => ⟨S64x128, .f32⟩
  | 83 => ⟨S64x128, .f32⟩
  | 84 => ⟨S64x128, .f32⟩
  | 85 => ⟨S64x128, .f32⟩
  | 86 => ⟨S64x128, .f32⟩
  | 87 => ⟨S_, .f32⟩
  | 88 => ⟨S64x128, .f32⟩
  | 89 => ⟨S64x128, .f32⟩
  | 90 => ⟨S_, .f32⟩
  | 91 => ⟨S64x128, .f32⟩
  | 92 => ⟨S64x128, .f32⟩
  | 93 => ⟨S64x128, .f32⟩
  | 94 => ⟨S64x128, .f32⟩
  | 95 => ⟨S64x128, .f32⟩
  | 96 => ⟨S_, .f32⟩
  | 97 => ⟨S64x128, .f32⟩
  | 98 => ⟨S64x128, .f32⟩
  | 99 => ⟨S_, .f32⟩
  | 100 => ⟨S64x128, .f32⟩
  | 101 => ⟨S64x128, .f32⟩
  | 102 => ⟨S64x128, .f32⟩
  | 103 => ⟨S64x128, .f32⟩
  | 104 => ⟨S64x128, .f32⟩
  | 105 => ⟨S_, .f32⟩
  | 106 => ⟨S64x128, .f32⟩
  | 107 => ⟨S64x128, .f32⟩
  | 108 => ⟨S64x128, .f32⟩
  | 109 => ⟨S64x128, .f32⟩
  | 110 => ⟨S64x128, .f32⟩
  | 111 => ⟨S64x128, .f32⟩
  | 112 => ⟨S1x128x384, .f32⟩
  | 113 => ⟨S128x384, .f32⟩
  | 114 => ⟨S1x1x384, .f32⟩
  | 115 => ⟨S1x384, .f32⟩
  | 116 => ⟨S64x384, .f32⟩
  | 117 => ⟨S64x384, .f32⟩
  | 118 => ⟨S64x384, .f32⟩
  | 119 => ⟨S64x128, .f32⟩
  | 120 => ⟨S64x128, .f32⟩
  | 121 => ⟨S64x128, .f32⟩
  | 122 => ⟨S64x128, .f32⟩
  | 123 => ⟨S64x128, .f32⟩
  | 124 => ⟨S64x128, .f32⟩
  | 125 => ⟨S64x128, .f32⟩
  | 126 => ⟨S64x128, .f32⟩
  | 127 => ⟨S64x128, .f32⟩
  | _ => ⟨S8x32x64x330, .bf16⟩

abbrev hbmTy0_1 (i : Nat) : BufTy := match i % 128 with
  | 0 => ⟨S_, .f32⟩
  | 1 => ⟨S64x128, .f32⟩
  | 2 => ⟨S64x128, .f32⟩
  | 3 => ⟨S_, .f32⟩
  | 4 => ⟨S64x128, .f32⟩
  | 5 => ⟨S64x128, .f32⟩
  | 6 => ⟨S64x128, .f32⟩
  | 7 => ⟨S64x128, .f32⟩
  | 8 => ⟨S64x128, .f32⟩
  | 9 => ⟨S_, .f32⟩
  | 10 => ⟨S64x128, .f32⟩
  | 11 => ⟨S64x128, .f32⟩
  | 12 => ⟨S_, .f32⟩
  | 13 => ⟨S64x128, .f32⟩
  | 14 => ⟨S64x128, .f32⟩
  | 15 => ⟨S64x128, .f32⟩
  | 16 => ⟨S64x128, .f32⟩
  | 17 => ⟨S64x128, .f32⟩
  | 18 => ⟨S_, .f32⟩
  | 19 => ⟨S64x128, .f32⟩
  | 20 => ⟨S64x128, .f32⟩
  | 21 => ⟨S64x128, .f32⟩
  | 22 => ⟨S64x128, .f32⟩
  | 23 => ⟨S64x128, .f32⟩
  | 24 => ⟨S64x128, .f32⟩
  | 25 => ⟨S1x64x128, .f32⟩
  | 26 => ⟨S_, .i32⟩
  | 27 => ⟨S_, .i32⟩
  | 28 => ⟨S256x64x128, .f32⟩
  | 29 => ⟨S1x64x128, .f32⟩
  | 30 => ⟨S_, .i32⟩
  | 31 => ⟨S_, .i32⟩
  | 32 => ⟨S256x64x128, .f32⟩
  | 33 => ⟨S_, .i32⟩
  | 34 => ⟨S_, .i32⟩
  | 35 => ⟨S8x32x64x128, .f32⟩
  | 36 => ⟨S256x64x128, .f32⟩
  | 37 => ⟨S8x32x64x128, .f32⟩
  | _ => ⟨S8x32x64x330, .bf16⟩

abbrev hbmTy (i : Nat) : BufTy := match i / 128 with
  | 0 => hbmTy0_0 i
  | 1 => hbmTy0_1 i
  | _ => ⟨S8x32x64x330, .bf16⟩

abbrev bufTy : (tb : Table) → Fin (tcTables nBuf tb) → BufTy
  | .hbm, ⟨i, _⟩ => hbmTy i
  | _, _ => ⟨S8x32x64x330, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_c : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev main_v32_5 : Ref sig .tc := ⟨.hbm, 47, rfl⟩
abbrev main_v32_6 : Ref sig .tc := ⟨.hbm, 48, rfl⟩
abbrev main_v32_7 : Ref sig .tc := ⟨.hbm, 49, rfl⟩
abbrev main_v32_8 : Ref sig .tc := ⟨.hbm, 50, rfl⟩
abbrev main_v32_9 : Ref sig .tc := ⟨.hbm, 51, rfl⟩
abbrev main_v32_10 : Ref sig .tc := ⟨.hbm, 52, rfl⟩
abbrev main_while0c_c_12 : Ref sig .tc := ⟨.hbm, 53, rfl⟩
abbrev main_while0c_v36 : Ref sig .tc := ⟨.hbm, 54, rfl⟩
abbrev main_while0b_call0_c : Ref sig .tc := ⟨.hbm, 55, rfl⟩
abbrev main_while0b_call0_c_0 : Ref sig .tc := ⟨.hbm, 56, rfl⟩
abbrev main_while0b_call0_v0 : Ref sig .tc := ⟨.hbm, 57, rfl⟩
abbrev main_while0b_v36 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_v0 : Ref sig .tc := ⟨.hbm, 61, rfl⟩
abbrev main_while0b_v37 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_v0 : Ref sig .tc := ⟨.hbm, 65, rfl⟩
abbrev main_while0b_v38 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_call3_v0 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_v48 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_cst_12 : Ref sig .tc := ⟨.hbm, 87, rfl⟩
abbrev main_while0b_v56 : Ref sig .tc := ⟨.hbm, 88, rfl⟩
abbrev main_while0b_v57 : Ref sig .tc := ⟨.hbm, 89, rfl⟩
abbrev main_while0b_cst_13 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_cst_14 : Ref sig .tc := ⟨.hbm, 96, rfl⟩
abbrev main_while0b_v63 : Ref sig .tc := ⟨.hbm, 97, rfl⟩
abbrev main_while0b_v64 : Ref sig .tc := ⟨.hbm, 98, rfl⟩
abbrev main_while0b_cst_15 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_v69 : Ref sig .tc := ⟨.hbm, 104, rfl⟩
abbrev main_while0b_cst_16 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_v77 : Ref sig .tc := ⟨.hbm, 113, rfl⟩
abbrev main_while0b_v78 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_cst_17 : Ref sig .tc := ⟨.hbm, 128, rfl⟩
abbrev main_while0b_v92 : Ref sig .tc := ⟨.hbm, 129, rfl⟩
abbrev main_while0b_v93 : Ref sig .tc := ⟨.hbm, 130, rfl⟩
abbrev main_while0b_cst_18 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_cst_19 : Ref sig .tc := ⟨.hbm, 137, rfl⟩
abbrev main_while0b_v99 : Ref sig .tc := ⟨.hbm, 138, rfl⟩
abbrev main_while0b_v100 : Ref sig .tc := ⟨.hbm, 139, rfl⟩
abbrev main_while0b_cst_20 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_cst_21 : Ref sig .tc := ⟨.hbm, 146, rfl⟩
abbrev main_while0b_v106 : Ref sig .tc := ⟨.hbm, 147, rfl⟩
abbrev main_while0b_v107 : Ref sig .tc := ⟨.hbm, 148, rfl⟩
abbrev main_while0b_v108 : Ref sig .tc := ⟨.hbm, 149, rfl⟩
abbrev main_while0b_v109 : Ref sig .tc := ⟨.hbm, 150, rfl⟩
abbrev main_while0b_v110 : Ref sig .tc := ⟨.hbm, 151, rfl⟩
abbrev main_while0b_v111 : Ref sig .tc := ⟨.hbm, 152, rfl⟩
abbrev main_while0b_call6_v0 : Ref sig .tc := ⟨.hbm, 153, rfl⟩
abbrev main_while0b_call6_c : Ref sig .tc := ⟨.hbm, 154, rfl⟩
abbrev main_while0b_call6_c_0 : Ref sig .tc := ⟨.hbm, 155, rfl⟩
abbrev main_while0b_v112 : Ref sig .tc := ⟨.hbm, 156, rfl⟩
abbrev main_while0b_call7_v0 : Ref sig .tc := ⟨.hbm, 157, rfl⟩
abbrev main_while0b_call7_c : Ref sig .tc := ⟨.hbm, 158, rfl⟩
abbrev main_while0b_call7_c_0 : Ref sig .tc := ⟨.hbm, 159, rfl⟩
abbrev main_while0b_v113 : Ref sig .tc := ⟨.hbm, 160, rfl⟩
abbrev main_while0b_c_22 : Ref sig .tc := ⟨.hbm, 161, rfl⟩
abbrev main_while0b_v114 : Ref sig .tc := ⟨.hbm, 162, rfl⟩
abbrev main_v33 : Ref sig .tc := ⟨.hbm, 163, rfl⟩
abbrev main_v34 : Ref sig .tc := ⟨.hbm, 164, rfl⟩
abbrev main_v35 : Ref sig .tc := ⟨.hbm, 165, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S8x32x64x256 : Shape := ⟨4, ![8, 32, 64, 256]⟩
abbrev S2x256x384 : Shape := ⟨3, ![2, 256, 384]⟩
abbrev S2x128x384 : Shape := ⟨3, ![2, 128, 384]⟩
abbrev S2x1x384 : Shape := ⟨3, ![2, 1, 384]⟩
abbrev S64x128 : Shape := ⟨2, ![64, 128]⟩
abbrev S8x32x64x128 : Shape := ⟨4, ![8, 32, 64, 128]⟩
abbrev S1x32x64x256 : Shape := ⟨4, ![1, 32, 64, 256]⟩
abbrev S1x32x64x128 : Shape := ⟨4, ![1, 32, 64, 128]⟩
abbrev S32x64x384 : Shape := ⟨3, ![32, 64, 384]⟩
abbrev S32x64x256 : Shape := ⟨3, ![32, 64, 256]⟩
abbrev S2048x256 : Shape := ⟨2, ![2048, 256]⟩
abbrev S1x256x384 : Shape := ⟨3, ![1, 256, 384]⟩
abbrev S256x384 : Shape := ⟨2, ![256, 384]⟩
abbrev S2048x384 : Shape := ⟨2, ![2048, 384]⟩
abbrev S1x1x384 : Shape := ⟨3, ![1, 1, 384]⟩
abbrev S1x384 : Shape := ⟨2, ![1, 384]⟩
abbrev S1x64x384 : Shape := ⟨3, ![1, 64, 384]⟩
abbrev S64x384 : Shape := ⟨2, ![64, 384]⟩
abbrev S1x128x384 : Shape := ⟨3, ![1, 128, 384]⟩
abbrev S128x384 : Shape := ⟨2, ![128, 384]⟩
abbrev S1x1x64x128 : Shape := ⟨4, ![1, 1, 64, 128]⟩

abbrev nBuf : Space → Nat
  | .hbm => 8
  | .vmem => 17
  | .smem => 0
  | _ => 0

abbrev bufTy : (tb : Table) → Fin (tcTables nBuf tb) → BufTy
  | .hbm, ⟨0, _⟩ => ⟨S8x32x64x256, .bf16⟩
  | .hbm, ⟨1, _⟩ => ⟨S2x256x384, .bf16⟩
  | .hbm, ⟨2, _⟩ => ⟨S2x128x384, .bf16⟩
  | .hbm, ⟨3, _⟩ => ⟨S2x1x384, .f32⟩
  | .hbm, ⟨4, _⟩ => ⟨S2x1x384, .f32⟩
  | .hbm, ⟨5, _⟩ => ⟨S64x128, .f32⟩
  | .hbm, ⟨6, _⟩ => ⟨S8x32x64x128, .f32⟩
  | .hbm, ⟨7, _⟩ => ⟨S8x32x64x128, .f32⟩
  | .local _ .vmem, ⟨0, _⟩ => ⟨S1x32x64x256, .bf16⟩
  | .local _ .vmem, ⟨1, _⟩ => ⟨S1x32x64x256, .bf16⟩
  | .local _ .vmem, ⟨2, _⟩ => ⟨S1x32x64x256, .bf16⟩
  | .local _ .vmem, ⟨3, _⟩ => ⟨S1x32x64x256, .bf16⟩
  | .local _ .vmem, ⟨4, _⟩ => ⟨S2x256x384, .bf16⟩
  | .local _ .vmem, ⟨5, _⟩ => ⟨S2x128x384, .bf16⟩
  | .local _ .vmem, ⟨6, _⟩ => ⟨S2x1x384, .f32⟩
  | .local _ .vmem, ⟨7, _⟩ => ⟨S2x1x384, .f32⟩
  | .local _ .vmem, ⟨8, _⟩ => ⟨S64x128, .f32⟩
  | .local _ .vmem, ⟨9, _⟩ => ⟨S1x32x64x128, .f32⟩
  | .local _ .vmem, ⟨10, _⟩ => ⟨S1x32x64x128, .f32⟩
  | .local _ .vmem, ⟨11, _⟩ => ⟨S1x32x64x128, .f32⟩
  | .local _ .vmem, ⟨12, _⟩ => ⟨S1x32x64x128, .f32⟩
  | .local _ .vmem, ⟨13, _⟩ => ⟨S32x64x384, .f32⟩
  | .local _ .vmem, ⟨14, _⟩ => ⟨S32x64x384, .f32⟩
  | .local _ .vmem, ⟨15, _⟩ => ⟨S64x128, .f32⟩
  | .local _ .vmem, ⟨16, _⟩ => ⟨S64x128, .f32⟩
  | _, _ => ⟨S8x32x64x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_29 : BitVec 32 := 0#32
  let c32_i32_30 : BitVec 32 := 32#32
  let v35 : BitVec 32 := Scalar.addi c0_i32_29 c32_i32_30
  let c1_i32 : BitVec 32 := 1#32
  ⟨c0_i32_29, v35, c1_i32⟩
def k0_off1 (k0_t1 : Fin k0_t1_loop.trips) : Fin 3 → Nat :=
  let c0_i32_29 : BitVec 32 := 0#32
  let c1_i32 : BitVec 32 := 1#32
  let arg14 : BitVec 32 := Scf.iv c0_i32_29 c1_i32 k0_t1
  let v36 : Index := Scalar.indexCast arg14
  let c0_32 : Index := 0#32
  let c0_33 : Index := 0#32
  ![v36.toNat, 0, 0]
def k0_off2 (k0_t1 : Fin k0_t1_loop.trips) : Fin 4 → Nat :=
  let c0_45 : Index := 0#32
  let c0_i32_29 : BitVec 32 := 0#32
  let c1_i32 : BitVec 32 := 1#32
  let arg14 : BitVec 32 := Scf.iv c0_i32_29 c1_i32 k0_t1
  let v72 : Index := Scalar.indexCast arg14
  let c0_46 : Index := 0#32
  let c0_47 : Index := 0#32
  ![0, v72.toNat, 0, 0]
def k0_off3 (k0_t1 : Fin k0_t1_loop.trips) : Fin 3 → Nat :=
  let c31_i32 : BitVec 32 := 31#32
  let c0_i32_29 : BitVec 32 := 0#32
  let c1_i32 : BitVec 32 := 1#32
  let arg14 : BitVec 32 := Scf.iv c0_i32_29 c1_i32 k0_t1
  let v76 : BitVec 32 := Scalar.subi c31_i32 arg14
  let v77 : Index := Scalar.indexCast v76
  let c0_48 : Index := 0#32
  let c0_49 : Index := 0#32
  ![v77.toNat, 0, 0]
def k0_off4 (k0_t1 : Fin k0_t1_loop.trips) : Fin 4 → Nat :=
  let c0_61 : Index := 0#32
  let c31_i32 : BitVec 32 := 31#32
  let c0_i32_29 : BitVec 32 := 0#32
  let c1_i32 : BitVec 32 := 1#32
  let arg14 : BitVec 32 := Scf.iv c0_i32_29 c1_i32 k0_t1
  let v76 : BitVec 32 := Scalar.subi c31_i32 arg14
  let v113 : Index := Scalar.indexCast v76
  let c0_62 : Index := 0#32
  let c0_63 : Index := 0#32
  ![0, v113.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1x32x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x32x64x256 : Shape := ⟨4, ![8, 32, 64, 256]⟩
abbrev S2x256x384 : Shape := ⟨3, ![2, 256, 384]⟩
abbrev S2x128x384 : Shape := ⟨3, ![2, 128, 384]⟩
abbrev S2x1x384 : Shape := ⟨3, ![2, 1, 384]⟩
abbrev S64x128 : Shape := ⟨2, ![64, 128]⟩
abbrev S256x64x256 : Shape := ⟨3, ![256, 64, 256]⟩
abbrev S256 : Shape := ⟨1, ![256]⟩
abbrev S256x1x1 : Shape := ⟨3, ![256, 1, 1]⟩
abbrev S1x64x128 : Shape := ⟨3, ![1, 64, 128]⟩
abbrev S256x64x128 : Shape := ⟨3, ![256, 64, 128]⟩
abbrev S1x256x384 : Shape := ⟨3, ![1, 256, 384]⟩
abbrev S256x384 : Shape := ⟨2, ![256, 384]⟩
abbrev S256x64x384 : Shape := ⟨3, ![256, 64, 384]⟩
abbrev S1x1x384 : Shape := ⟨3, ![1, 1, 384]⟩
abbrev S1x384 : Shape := ⟨2, ![1, 384]⟩
abbrev S_ : Shape := ⟨0, ![]⟩
abbrev S1x64x384 : Shape := ⟨3, ![1, 64, 384]⟩
abbrev S64x384 : Shape := ⟨2, ![64, 384]⟩
abbrev S1x128x384 : Shape := ⟨3, ![1, 128, 384]⟩
abbrev S128x384 : Shape := ⟨2, ![128, 384]⟩
abbrev S8x32x64x128 : Shape := ⟨4, ![8, 32, 64, 128]⟩

abbrev nBuf : Space → Nat
  | .hbm => 166
  | .vmem => 0
  | .smem => 0
  | _ => 0

abbrev hbmTy0_0 (i : Nat) : BufTy := match i % 128 with
  | 0 => ⟨S8x32x64x256, .bf16⟩
  | 1 => ⟨S2x256x384, .bf16⟩
  | 2 => ⟨S2x128x384, .bf16⟩
  | 3 => ⟨S2x1x384, .f32⟩
  | 4 => ⟨S2x1x384, .f32⟩
  | 5 => ⟨S64x128, .f32⟩
  | 6 => ⟨S8x32x64x256, .f32⟩
  | 7 => ⟨S256x64x256, .f32⟩
  | 8 => ⟨S2x256x384, .f32⟩
  | 9 => ⟨S2x128x384, .f32⟩
  | 10 => ⟨S256, .i32⟩
  | 11 => ⟨S256, .f32⟩
  | 12 => ⟨S256x1x1, .f32⟩
  | 13 => ⟨S1x64x128, .f32⟩
  | 14 => ⟨S256x64x128, .f32⟩
  | 15 => ⟨S256x64x128, .f32⟩
  | 16 => ⟨S256x64x128, .i1⟩
  | 17 => ⟨S1x256x384, .f32⟩
  | 18 => ⟨S256x384, .f32⟩
  | 19 => ⟨S256x64x384, .f32⟩
  | 20 => ⟨S1x1x384, .f32⟩
  | 21 => ⟨S1x384, .f32⟩
  | 22 => ⟨S1x1x384, .f32⟩
  | 23 => ⟨S256x64x384, .f32⟩
  | 24 => ⟨S256x64x384, .f32⟩
  | 25 => ⟨S1x256x384, .f32⟩
  | 26 => ⟨S256x384, .f32⟩
  | 27 => ⟨S256x64x384, .f32⟩
  | 28 => ⟨S1x1x384, .f32⟩
  | 29 => ⟨S1x384, .f32⟩
  | 30 => ⟨S1x1x384, .f32⟩
  | 31 => ⟨S256x64x384, .f32⟩
  | 32 => ⟨S256x64x384, .f32⟩
  | 33 => ⟨S_, .f32⟩
  | 34 => ⟨S64x128, .f32⟩
  | 35 => ⟨S256x64x384, .f32⟩
  | 36 => ⟨S256x64x128, .i1⟩
  | 37 => ⟨S_, .f32⟩
  | 38 => ⟨S256x64x128, .f32⟩
  | 39 => ⟨S_, .f32⟩
  | 40 => ⟨S256x64x128, .f32⟩
  | 41 => ⟨S_, .i32⟩
  | 42 => ⟨S256x64x384, .f32⟩
  | 43 => ⟨S256x64x128, .i1⟩
  | 44 => ⟨S256x64x384, .f32⟩
  | 45 => ⟨S256x64x128, .i1⟩
  | 46 => ⟨S2x128x384, .f32⟩
  | 47 => ⟨S2x1x384, .f32⟩
  | 48 => ⟨S_, .i32⟩
  | 49 => ⟨S64x128, .f32⟩
  | 50 => ⟨S64x128, .f32⟩
  | 51 => ⟨S256x64x128, .f32⟩
  | 52 => ⟨S256x64x128, .f32⟩
  | 53 => ⟨S_, .i32⟩
  | 54 => ⟨S_, .i1⟩
  | 55 => ⟨S_, .i32⟩
  | 56 => ⟨S_, .i32⟩
  | 57 => ⟨S1x64x384, .f32⟩
  | 58 => ⟨S64x384, .f32⟩
  | 59 => ⟨S_, .i32⟩
  | 60 => ⟨S_, .i32⟩
  | 61 => ⟨S1x64x128, .i1⟩
  | 62 => ⟨S64x128, .i1⟩
  | 63 => ⟨S_, .i32⟩
  | 64 => ⟨S_, .i32⟩
  | 65 => ⟨S1x64x384, .f32⟩
  | 66 => ⟨S64x384, .f32⟩
  | 67 => ⟨S_, .i32⟩
  | 68 => ⟨S_, .i32⟩
  | 69 => ⟨S1x64x128, .i1⟩
  | 70 => ⟨S64x128, .i1⟩
  | 71 => ⟨S1x128x384, .f32⟩
  | 72 => ⟨S128x384, .f32⟩
  | 73 => ⟨S1x1x384, .f32⟩
  | 74 => ⟨S1x384, .f32⟩
  | 75 => ⟨S64x384, .f32⟩
  | 76 => ⟨S64x384, .f32⟩
  | 77 => ⟨S64x384, .f32⟩
  | 78 => ⟨S64x128, .f32⟩
  | 79 => ⟨S64x128, .f32⟩
  | 80 => ⟨S64x128, .f32⟩
  | 81 => ⟨S64x128, .f32⟩
  | 82 => ⟨S64x128, .f32⟩
  | 83 => ⟨S64x128, .f32⟩
  | 84 => ⟨S64x128, .f32⟩
  | 85 => ⟨S64x128, .f32⟩
  | 86 => ⟨S64x128, .f32⟩
  | 87 => ⟨S_, .f32⟩
  | 88 => ⟨S64x128, .f32⟩
  | 89 => ⟨S64x128, .f32⟩
  | 90 => ⟨S_, .f32⟩
  | 91 => ⟨S64x128, .f32⟩
  | 92 => ⟨S64x128, .f32⟩
  | 93 => ⟨S64x128, .f32⟩
  | 94 => ⟨S64x128, .f32⟩
  | 95 => ⟨S64x128, .f32⟩
  | 96 => ⟨S_, .f32⟩
  | 97 => ⟨S64x128, .f32⟩
  | 98 => ⟨S64x128, .f32⟩
  | 99 => ⟨S_, .f32⟩
  | 100 => ⟨S64x128, .f32⟩
  | 101 => ⟨S64x128, .f32⟩
  | 102 => ⟨S64x128, .f32⟩
  | 103 => ⟨S64x128, .f32⟩
  | 104 => ⟨S64x128, .f32⟩
  | 105 => ⟨S_, .f32⟩
  | 106 => ⟨S64x128, .f32⟩
  | 107 => ⟨S64x128, .f32⟩
  | 108 => ⟨S64x128, .f32⟩
  | 109 => ⟨S64x128, .f32⟩
  | 110 => ⟨S64x128, .f32⟩
  | 111 => ⟨S64x128, .f32⟩
  | 112 => ⟨S1x128x384, .f32⟩
  | 113 => ⟨S128x384, .f32⟩
  | 114 => ⟨S1x1x384, .f32⟩
  | 115 => ⟨S1x384, .f32⟩
  | 116 => ⟨S64x384, .f32⟩
  | 117 => ⟨S64x384, .f32⟩
  | 118 => ⟨S64x384, .f32⟩
  | 119 => ⟨S64x128, .f32⟩
  | 120 => ⟨S64x128, .f32⟩
  | 121 => ⟨S64x128, .f32⟩
  | 122 => ⟨S64x128, .f32⟩
  | 123 => ⟨S64x128, .f32⟩
  | 124 => ⟨S64x128, .f32⟩
  | 125 => ⟨S64x128, .f32⟩
  | 126 => ⟨S64x128, .f32⟩
  | 127 => ⟨S64x128, .f32⟩
  | _ => ⟨S8x32x64x256, .bf16⟩

abbrev hbmTy0_1 (i : Nat) : BufTy := match i % 128 with
  | 0 => ⟨S_, .f32⟩
  | 1 => ⟨S64x128, .f32⟩
  | 2 => ⟨S64x128, .f32⟩
  | 3 => ⟨S_, .f32⟩
  | 4 => ⟨S64x128, .f32⟩
  | 5 => ⟨S64x128, .f32⟩
  | 6 => ⟨S64x128, .f32⟩
  | 7 => ⟨S64x128, .f32⟩
  | 8 => ⟨S64x128, .f32⟩
  | 9 => ⟨S_, .f32⟩
  | 10 => ⟨S64x128, .f32⟩
  | 11 => ⟨S64x128, .f32⟩
  | 12 => ⟨S_, .f32⟩
  | 13 => ⟨S64x128, .f32⟩
  | 14 => ⟨S64x128, .f32⟩
  | 15 => ⟨S64x128, .f32⟩
  | 16 => ⟨S64x128, .f32⟩
  | 17 => ⟨S64x128, .f32⟩
  | 18 => ⟨S_, .f32⟩
  | 19 => ⟨S64x128, .f32⟩
  | 20 => ⟨S64x128, .f32⟩
  | 21 => ⟨S64x128, .f32⟩
  | 22 => ⟨S64x128, .f32⟩
  | 23 => ⟨S64x128, .f32⟩
  | 24 => ⟨S64x128, .f32⟩
  | 25 => ⟨S1x64x128, .f32⟩
  | 26 => ⟨S_, .i32⟩
  | 27 => ⟨S_, .i32⟩
  | 28 => ⟨S256x64x128, .f32⟩
  | 29 => ⟨S1x64x128, .f32⟩
  | 30 => ⟨S_, .i32⟩
  | 31 => ⟨S_, .i32⟩
  | 32 => ⟨S256x64x128, .f32⟩
  | 33 => ⟨S_, .i32⟩
  | 34 => ⟨S_, .i32⟩
  | 35 => ⟨S8x32x64x128, .f32⟩
  | 36 => ⟨S256x64x128, .f32⟩
  | 37 => ⟨S8x32x64x128, .f32⟩
  | _ => ⟨S8x32x64x256, .bf16⟩

abbrev hbmTy (i : Nat) : BufTy := match i / 128 with
  | 0 => hbmTy0_0 i
  | 1 => hbmTy0_1 i
  | _ => ⟨S8x32x64x256, .bf16⟩

abbrev bufTy : (tb : Table) → Fin (tcTables nBuf tb) → BufTy
  | .hbm, ⟨i, _⟩ => hbmTy i
  | _, _ => ⟨S8x32x64x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_c : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev main_v32_5 : Ref sig .tc := ⟨.hbm, 47, rfl⟩
abbrev main_v32_6 : Ref sig .tc := ⟨.hbm, 48, rfl⟩
abbrev main_v32_7 : Ref sig .tc := ⟨.hbm, 49, rfl⟩
abbrev main_v32_8 : Ref sig .tc := ⟨.hbm, 50, rfl⟩
abbrev main_v32_9 : Ref sig .tc := ⟨.hbm, 51, rfl⟩
abbrev main_v32_10 : Ref sig .tc := ⟨.hbm, 52, rfl⟩
abbrev main_while0c_c_12 : Ref sig .tc := ⟨.hbm, 53, rfl⟩
abbrev main_while0c_v36 : Ref sig .tc := ⟨.hbm, 54, rfl⟩
abbrev main_while0b_call0_c : Ref sig .tc := ⟨.hbm, 55, rfl⟩
abbrev main_while0b_call0_c_0 : Ref sig .tc := ⟨.hbm, 56, rfl⟩
abbrev main_while0b_call0_v0 : Ref sig .tc := ⟨.hbm, 57, rfl⟩
abbrev main_while0b_v36 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_v0 : Ref sig .tc := ⟨.hbm, 61, rfl⟩
abbrev main_while0b_v37 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_v0 : Ref sig .tc := ⟨.hbm, 65, rfl⟩
abbrev main_while0b_v38 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_call3_v0 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_v48 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_cst_12 : Ref sig .tc := ⟨.hbm, 87, rfl⟩
abbrev main_while0b_v56 : Ref sig .tc := ⟨.hbm, 88, rfl⟩
abbrev main_while0b_v57 : Ref sig .tc := ⟨.hbm, 89, rfl⟩
abbrev main_while0b_cst_13 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_cst_14 : Ref sig .tc := ⟨.hbm, 96, rfl⟩
abbrev main_while0b_v63 : Ref sig .tc := ⟨.hbm, 97, rfl⟩
abbrev main_while0b_v64 : Ref sig .tc := ⟨.hbm, 98, rfl⟩
abbrev main_while0b_cst_15 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_v69 : Ref sig .tc := ⟨.hbm, 104, rfl⟩
abbrev main_while0b_cst_16 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_v77 : Ref sig .tc := ⟨.hbm, 113, rfl⟩
abbrev main_while0b_v78 : Ref sig .tc := ⟨.hbm, 114, rfl⟩
abbrev main_while0b_v79 : Ref sig .tc := ⟨.hbm, 115, rfl⟩
abbrev main_while0b_v80 : Ref sig .tc := ⟨.hbm, 116, rfl⟩
abbrev main_while0b_v81 : Ref sig .tc := ⟨.hbm, 117, rfl⟩
abbrev main_while0b_v82 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_cst_17 : Ref sig .tc := ⟨.hbm, 128, rfl⟩
abbrev main_while0b_v92 : Ref sig .tc := ⟨.hbm, 129, rfl⟩
abbrev main_while0b_v93 : Ref sig .tc := ⟨.hbm, 130, rfl⟩
abbrev main_while0b_cst_18 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_cst_19 : Ref sig .tc := ⟨.hbm, 137, rfl⟩
abbrev main_while0b_v99 : Ref sig .tc := ⟨.hbm, 138, rfl⟩
abbrev main_while0b_v100 : Ref sig .tc := ⟨.hbm, 139, rfl⟩
abbrev main_while0b_cst_20 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_cst_21 : Ref sig .tc := ⟨.hbm, 146, rfl⟩
abbrev main_while0b_v106 : Ref sig .tc := ⟨.hbm, 147, rfl⟩
abbrev main_while0b_v107 : Ref sig .tc := ⟨.hbm, 148, rfl⟩
abbrev main_while0b_v108 : Ref sig .tc := ⟨.hbm, 149, rfl⟩
abbrev main_while0b_v109 : Ref sig .tc := ⟨.hbm, 150, rfl⟩
abbrev main_while0b_v110 : Ref sig .tc := ⟨.hbm, 151, rfl⟩
abbrev main_while0b_v111 : Ref sig .tc := ⟨.hbm, 152, rfl⟩
abbrev main_while0b_call6_v0 : Ref sig .tc := ⟨.hbm, 153, rfl⟩
abbrev main_while0b_call6_c : Ref sig .tc := ⟨.hbm, 154, rfl⟩
abbrev main_while0b_call6_c_0 : Ref sig .tc := ⟨.hbm, 155, rfl⟩
abbrev main_while0b_v112 : Ref sig .tc := ⟨.hbm, 156, rfl⟩
abbrev main_while0b_call7_v0 : Ref sig .tc := ⟨.hbm, 157, rfl⟩
abbrev main_while0b_call7_c : Ref sig .tc := ⟨.hbm, 158, rfl⟩
abbrev main_while0b_call7_c_0 : Ref sig .tc := ⟨.hbm, 159, rfl⟩
abbrev main_while0b_v113 : Ref sig .tc := ⟨.hbm, 160, rfl⟩
abbrev main_while0b_c_22 : Ref sig .tc := ⟨.hbm, 161, rfl⟩
abbrev main_while0b_v114 : Ref sig .tc := ⟨.hbm, 162, rfl⟩
abbrev main_v33 : Ref sig .tc := ⟨.hbm, 163, rfl⟩
abbrev main_v34 : Ref sig .tc := ⟨.hbm, 164, rfl⟩
abbrev main_v35 : Ref sig .tc := ⟨.hbm, 165, rfl⟩

abbrev nD : Nat := 1
abbrev τ : Topo := Topo.v7x

variable {F : FTy → Type} [FloatOps F]

abbrev main_while0_count : Scf.Loop 32 := ⟨0#32, 256#32, 1#32⟩
-- ==== Kernel3.lean ====
abbrev S500x30 : Shape := ⟨2, ![500, 30]⟩
abbrev S30x30x3 : Shape := ⟨3, ![30, 30, 3]⟩
abbrev S30 : Shape := ⟨1, ![30]⟩
abbrev S50000x300 : Shape := ⟨2, ![50000, 300]⟩
abbrev S8192x16 : Shape := ⟨2, ![8192, 16]⟩
abbrev S64x256 : Shape := ⟨2, ![64, 256]⟩
abbrev S_ : Shape := ⟨0, ![]⟩
abbrev S8192x16x1 : Shape := ⟨3, ![8192, 16, 1]⟩
abbrev S8192x16x30 : Shape := ⟨3, ![8192, 16, 30]⟩
abbrev S8192x480 : Shape := ⟨2, ![8192, 480]⟩
abbrev S32x30x3 : Shape := ⟨3, ![32, 30, 3]⟩
abbrev S16x16 : Shape := ⟨2, ![16, 16]⟩
abbrev S32x30x1 : Shape := ⟨3, ![32, 30, 1]⟩
abbrev S32x30 : Shape := ⟨2, ![32, 30]⟩
abbrev S30x32 : Shape := ⟨2, ![30, 32]⟩
abbrev S16x1x16x1 : Shape := ⟨4, ![16, 1, 16, 1]⟩
abbrev S1x30x1x32 : Shape := ⟨4, ![1, 30, 1, 32]⟩
abbrev S16x30x16x32 : Shape := ⟨4, ![16, 30, 16, 32]⟩
abbrev S480x512 : Shape := ⟨2, ![480, 512]⟩
abbrev S32 : Shape := ⟨1, ![32]⟩
abbrev S1x32 : Shape := ⟨2, ![1, 32]⟩
abbrev S16x32 : Shape := ⟨2, ![16, 32]⟩
abbrev S512 : Shape := ⟨1, ![512]⟩
abbrev S1x512 : Shape := ⟨2, ![1, 512]⟩
abbrev S8192x32 : Shape := ⟨2, ![8192, 32]⟩
abbrev S512x480 : Shape := ⟨2, ![512, 480]⟩
abbrev S512x32 : Shape := ⟨2, ![512, 32]⟩
abbrev S512x512 : Shape := ⟨2, ![512, 512]⟩
abbrev S512x256 : Shape := ⟨2, ![512, 256]⟩
abbrev S512x128 : Shape := ⟨2, ![512, 128]⟩
abbrev S512x64 : Shape := ⟨2, ![512, 64]⟩
abbrev S1x30 : Shape := ⟨2, ![1, 30]⟩
abbrev S8192x30 : Shape := ⟨2, ![8192, 30]⟩
abbrev S8193x30 : Shape := ⟨2, ![8193, 30]⟩
abbrev S64x8x32 : Shape := ⟨3, ![64, 8, 32]⟩
abbrev S8x32x64 : Shape := ⟨3, ![8, 32, 64]⟩
abbrev S8x32x64x1 : Shape := ⟨4, ![8, 32, 64, 1]⟩
abbrev S8x32x64x300 : Shape := ⟨4, ![8, 32, 64, 300]⟩
abbrev S8x32x64x30 : Shape := ⟨4, ![8, 32, 64, 30]⟩
abbrev S8x32x64x330 : Shape := ⟨4, ![8, 32, 64, 330]⟩

abbrev nBuf : Space → Nat
  | .hbm => 109
  | .vmem => 6
  | .smem => 0
  | _ => 0

abbrev bufTy : (tb : Table) → Fin (tcTables nBuf tb) → BufTy
  | .hbm, ⟨0, _⟩ => ⟨S500x30, .f32⟩
  | .hbm, ⟨1, _⟩ => ⟨S30x30x3, .f32⟩
  | .hbm, ⟨2, _⟩ => ⟨S30, .f32⟩
  | .hbm, ⟨3, _⟩ => ⟨S50000x300, .f32⟩
  | .hbm, ⟨4, _⟩ => ⟨S8192x16, .i32⟩
  | .hbm, ⟨5, _⟩ => ⟨S64x256, .i32⟩
  | .hbm, ⟨6, _⟩ => ⟨S64x256, .i32⟩
  | .hbm, ⟨7, _⟩ => ⟨S_, .i32⟩
  | .hbm, ⟨8, _⟩ => ⟨S8192x16, .i32⟩
  | .hbm, ⟨9, _⟩ => ⟨S8192x16, .i1⟩
  | .hbm, ⟨10, _⟩ => ⟨S_, .i32⟩
  | .hbm, ⟨11, _⟩ => ⟨S8192x16, .i32⟩
  | .hbm, ⟨12, _⟩ => ⟨S8192x16, .i32⟩
  | .hbm, ⟨13, _⟩ => ⟨S8192x16, .i32⟩
  | .hbm, ⟨14, _⟩ => ⟨S8192x16x1, .i32⟩
  | .hbm, ⟨15, _⟩ => ⟨S8192x16x30, .f32⟩
  | .hbm, ⟨16, _⟩ => ⟨S8192x480, .f32⟩
  | .hbm, ⟨17, _⟩ => ⟨S_, .i32⟩
  | .hbm, ⟨18, _⟩ => ⟨S_, .f32⟩
  | .hbm, ⟨19, _⟩ => ⟨S32x30x3, .f32⟩
  | .hbm, ⟨20, _⟩ => ⟨S16x16, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x16, .i32⟩
  | .hbm, ⟨25, _⟩ => ⟨S16x16, .i1⟩
  | .hbm, ⟨26, _⟩ => ⟨S16x16, .f32⟩
  | .hbm, ⟨27, _⟩ => ⟨S32x30x1, .f32⟩
  | .hbm, ⟨28, _⟩ => ⟨S32x30, .f32⟩
  | .hbm, ⟨29, _⟩ => ⟨S30x32, .f32⟩
  | .hbm, ⟨30, _⟩ => ⟨S16x1x16x1, .f32⟩
  | .hbm, ⟨31, _⟩ => ⟨S1x30x1x32, .f32⟩
  | .hbm, ⟨32, _⟩ => ⟨S16x30x16x32, .f32⟩
  | .hbm, ⟨33, _⟩ => ⟨S16x30x16x32, .f32⟩
  | .hbm, ⟨34, _⟩ => ⟨S16x30x16x32, .f32⟩
  | .hbm, ⟨35, _⟩ => ⟨S480x512, .f32⟩
  | .hbm, ⟨36, _⟩ => ⟨S_, .f32⟩
  | .hbm, ⟨37, _⟩ => ⟨S480x512, .f32⟩
  | .hbm, ⟨38, _⟩ => ⟨S480x512, .f32⟩
  | .hbm, ⟨39, _⟩ => ⟨S16x16, .i32⟩
  | .hbm, ⟨40, _⟩ => ⟨S16x16, .i32⟩
  | .hbm, ⟨41, _⟩ => ⟨S_, .i32⟩
  | .hbm, ⟨42, _⟩ => ⟨S16x16, .i32⟩
  | .hbm, ⟨43, _⟩ => ⟨S16x16, .i32⟩
  | .hbm, ⟨44, _⟩ => ⟨S16x16, .i1⟩
  | .hbm, ⟨45, _⟩ => ⟨S16x16, .f32⟩
  | .hbm, ⟨46, _⟩ => ⟨S32x30x1, .f32⟩
  | .hbm, ⟨47, _⟩ => ⟨S32x30, .f32⟩
  | .hbm, ⟨48, _⟩ => ⟨S30x32, .f32⟩
  | .hbm, ⟨49, _⟩ => ⟨S16x1x16x1, .f32⟩
  | .hbm, ⟨50, _⟩ => ⟨S1x30x1x32, .f32⟩
  | .hbm, ⟨51, _⟩ => ⟨S16x30x16x32, .f32⟩
  | .hbm, ⟨52, _⟩ => ⟨S16x30x16x32, .f32⟩
  | .hbm, ⟨53, _⟩ => ⟨S16x30x16x32, .f32⟩
  | .hbm, ⟨54, _⟩ => ⟨S480x512, .f32⟩
  | .hbm, ⟨55, _⟩ => ⟨S480x512, .f32⟩
  | .hbm, ⟨56, _⟩ => ⟨S16x16, .i32⟩
  | .hbm, ⟨57, _⟩ => ⟨S16x16, .i32⟩
  | .hbm, ⟨58, _⟩ => ⟨S_, .i32⟩
  | .hbm, ⟨59, _⟩ => ⟨S16x16, .i32⟩
  | .hbm, ⟨60, _⟩ => ⟨S16x16, .i32⟩
  | .hbm, ⟨61, _⟩ => ⟨S16x16, .i1⟩
  | .hbm, ⟨62, _⟩ => ⟨S16x16, .f32⟩
  | .hbm, ⟨63, _⟩ => ⟨S32x30x1, .f32⟩
  | .hbm, ⟨64, _⟩ => ⟨S32x30, .f32⟩
  | .hbm, ⟨65, _⟩ => ⟨S30x32, .f32⟩
  | .hbm, ⟨66, _⟩ => ⟨S16x1x16x1, .f32⟩
  | .hbm, ⟨67, _⟩ => ⟨S1x30x1x32, .f32⟩
  | .hbm, ⟨68, _⟩ => ⟨S16x30x16x32, .f32⟩
  | .hbm, ⟨69, _⟩ => ⟨S16x30x16x32, .f32⟩
  | .hbm, ⟨70, _⟩ => ⟨S16x30x16x32, .f32⟩
  | .hbm, ⟨71, _⟩ => ⟨S480x512, .f32⟩
  | .hbm, ⟨72, _⟩ => ⟨S480x512, .f32⟩
  | .hbm, ⟨73, _⟩ => ⟨S_, .i32⟩
  | .hbm, ⟨74, _⟩ => ⟨S_, .f32⟩
  | .hbm, ⟨75, _⟩ => ⟨S32, .f32⟩
  | .hbm, ⟨76, _⟩ => ⟨S1x32, .f32⟩
  | .hbm, ⟨77, _⟩ => ⟨S16x32, .f32⟩
  | .hbm, ⟨78, _⟩ => ⟨S512, .f32⟩
  | .hbm, ⟨79, _⟩ => ⟨S1x512, .f32⟩
  | .hbm, ⟨80, _⟩ => ⟨S8192x32, .f32⟩
  | .hbm, ⟨81, _⟩ => ⟨S_, .f32⟩
  | .hbm, ⟨82, _⟩ => ⟨S1x30, .f32⟩
  | .hbm, ⟨83, _⟩ => ⟨S8192x30, .f32⟩
  | .hbm, ⟨84, _⟩ => ⟨S8193x30, .f32⟩
  | .hbm, ⟨85, _⟩ => ⟨S64x8x32, .i32⟩
  | .hbm, ⟨86, _⟩ => ⟨S8x32x64, .i32⟩
  | .hbm, ⟨87, _⟩ => ⟨S64x8x32, .i32⟩
  | .hbm, ⟨88, _⟩ => ⟨S8x32x64, .i32⟩
  | .hbm, ⟨89, _⟩ => ⟨S_, .i32⟩
  | .hbm, ⟨90, _⟩ => ⟨S8x32x64, .i32⟩
  | .hbm, ⟨91, _⟩ => ⟨S8x32x64, .i1⟩
  | .hbm, ⟨92, _⟩ => ⟨S_, .i32⟩
  | .hbm, ⟨93, _⟩ => ⟨S8x32x64, .i32⟩
  | .hbm, ⟨94, _⟩ => ⟨S8x32x64, .i32⟩
  | .hbm, ⟨95, _⟩ => ⟨S8x32x64, .i32⟩
  | .hbm, ⟨96, _⟩ => ⟨S8x32x64x1, .i32⟩
  | .hbm, ⟨97, _⟩ => ⟨S8x32x64x300, .f32⟩
  | .hbm, ⟨98, _⟩ => ⟨S_, .i32⟩
  | .hbm, ⟨99, _⟩ => ⟨S8x32x64, .i32⟩
  | .hbm, ⟨100, _⟩ => ⟨S8x32x64, .i1⟩
  | .hbm, ⟨101, _⟩ => ⟨S_, .i32⟩
  | .hbm, ⟨102, _⟩ => ⟨S8x32x64, .i32⟩
  | .hbm, ⟨103, _⟩ => ⟨S8x32x64, .i32⟩
  | .hbm, ⟨104, _⟩ => ⟨S8x32x64, .i32⟩
  | .hbm, ⟨105, _⟩ => ⟨S8x32x64x1, .i32⟩
  | .hbm, ⟨106, _⟩ => ⟨S8x32x64x30, .f32⟩
  | .hbm, ⟨107, _⟩ => ⟨S8x32x64x330, .f32⟩
  | .hbm, ⟨108, _⟩ => ⟨S8x32x64x330, .bf16⟩
  | .local _ .vmem, ⟨0, _⟩ => ⟨S512x480, .f32⟩
  | .local _ .vmem, ⟨1, _⟩ => ⟨S512x480, .f32⟩
  | .local _ .vmem, ⟨2, _⟩ => ⟨S480x512, .f32⟩
  | .local _ .vmem, ⟨3, _⟩ => ⟨S1x512, .f32⟩
  | .local _ .vmem, ⟨4, _⟩ => ⟨S512x32, .f32⟩
  | .local _ .vmem, ⟨5, _⟩ => ⟨S512x32, .f32⟩
  | _, _ => ⟨S500x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v41 : Ref sig .tc := ⟨.hbm, 71, rfl⟩
abbrev main_v42 : Ref sig .tc := ⟨.hbm, 72, rfl⟩
abbrev main_c_5 : Ref sig .tc := ⟨.hbm, 73, rfl⟩
abbrev main_call4_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_7 : Ref sig .tc := ⟨.hbm, 89, rfl⟩
abbrev main_v56 : Ref sig .tc := ⟨.hbm, 90, rfl⟩
abbrev main_v57 : Ref sig .tc := ⟨.hbm, 91, rfl⟩
abbrev main_c_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_9 : Ref sig .tc := ⟨.hbm, 98, rfl⟩
abbrev main_v63 : Ref sig .tc := ⟨.hbm, 99, rfl⟩
abbrev main_v64 : Ref sig .tc := ⟨.hbm, 100, rfl⟩
abbrev main_c_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S500x30 : Shape := ⟨2, ![500, 30]⟩
abbrev S30x30x3 : Shape := ⟨3, ![30, 30, 3]⟩
abbrev S30 : Shape := ⟨1, ![30]⟩
abbrev S50000x300 : Shape := ⟨2, ![50000, 300]⟩
abbrev S8192x16 : Shape := ⟨2, ![8192, 16]⟩
abbrev S64x256 : Shape := ⟨2, ![64, 256]⟩
abbrev S_ : Shape := ⟨0, ![]⟩
abbrev S8192x16x1 : Shape := ⟨3, ![8192, 16, 1]⟩
abbrev S8192x16x30 : Shape := ⟨3, ![8192, 16, 30]⟩
abbrev S8192x18x30 : Shape := ⟨3, ![8192, 18, 30]⟩
abbrev S30x30x1 : Shape := ⟨3, ![30, 30, 1]⟩
abbrev S30x30 : Shape := ⟨2, ![30, 30]⟩
abbrev S1x1x30 : Shape := ⟨3, ![1, 1, 30]⟩
abbrev S8192x30 : Shape := ⟨2, ![8192, 30]⟩
abbrev S1x30 : Shape := ⟨2, ![1, 30]⟩
abbrev S8193x30 : Shape := ⟨2, ![8193, 30]⟩
abbrev S64x256x1 : Shape := ⟨3, ![64, 256, 1]⟩
abbrev S64x256x300 : Shape := ⟨3, ![64, 256, 300]⟩
abbrev S64x256x30 : Shape := ⟨3, ![64, 256, 30]⟩
abbrev S64x256x330 : Shape := ⟨3, ![64, 256, 330]⟩
abbrev S256x64x330 : Shape := ⟨3, ![256, 64, 330]⟩
abbrev S8x32x64x330 : Shape := ⟨4, ![8, 32, 64, 330]⟩

abbrev nBuf : Space → Nat
  | .hbm => 69
  | .vmem => 0
  | .smem => 0
  | _ => 0

abbrev bufTy : (tb : Table) → Fin (tcTables nBuf tb) → BufTy
  | .hbm, ⟨0, _⟩ => ⟨S500x30, .f32⟩
  | .hbm, ⟨1, _⟩ => ⟨S30x30x3, .f32⟩
  | .hbm, ⟨2, _⟩ => ⟨S30, .f32⟩
  | .hbm, ⟨3, _⟩ => ⟨S50000x300, .f32⟩
  | .hbm, ⟨4, _⟩ => ⟨S8192x16, .i32⟩
  | .hbm, ⟨5, _⟩ => ⟨S64x256, .i32⟩
  | .hbm, ⟨6, _⟩ => ⟨S64x256, .i32⟩
  | .hbm, ⟨7, _⟩ => ⟨S_, .i32⟩
  | .hbm, ⟨8, _⟩ => ⟨S8192x16, .i32⟩
  | .hbm, ⟨9, _⟩ => ⟨S8192x16, .i1⟩
  | .hbm, ⟨10, _⟩ => ⟨S_, .i32⟩
  | .hbm, ⟨11, _⟩ => ⟨S8192x16, .i32⟩
  | .hbm, ⟨12, _⟩ => ⟨S8192x16, .i32⟩
  | .hbm, ⟨13, _⟩ => ⟨S8192x16, .i32⟩
  | .hbm, ⟨14, _⟩ => ⟨S8192x16x1, .i32⟩
  | .hbm, ⟨15, _⟩ => ⟨S8192x16x30, .f32⟩
  | .hbm, ⟨16, _⟩ => ⟨S_, .i32⟩
  | .hbm, ⟨17, _⟩ => ⟨S_, .f32⟩
  | .hbm, ⟨18, _⟩ => ⟨S8192x18x30, .f32⟩
  | .hbm, ⟨19, _⟩ => ⟨S8192x16x30, .f32⟩
  | .hbm, ⟨20, _⟩ => ⟨S30x30x1, .f32⟩
  | .hbm, ⟨21, _⟩ => ⟨S30x30, .f32⟩
  | .hbm, ⟨22, _⟩ => ⟨S8192x16x30, .f32⟩
  | .hbm, ⟨23, _⟩ => ⟨S_, .f32⟩
  | .hbm, ⟨24, _⟩ => ⟨S8192x16x30, .f32⟩
  | .hbm, ⟨25, _⟩ => ⟨S8192x16x30, .f32⟩
  | .hbm, ⟨26, _⟩ => ⟨S8192x16x30, .f32⟩
  | .hbm, ⟨27, _⟩ => ⟨S30x30x1, .f32⟩
  | .hbm, ⟨28, _⟩ => ⟨S30x30, .f32⟩
  | .hbm, ⟨29, _⟩ => ⟨S8192x16x30, .f32⟩
  | .hbm, ⟨30, _⟩ => ⟨S8192x16x30, .f32⟩
  | .hbm, ⟨31, _⟩ => ⟨S8192x16x30, .f32⟩
  | .hbm, ⟨32, _⟩ => ⟨S30x30x1, .f32⟩
  | .hbm, ⟨33, _⟩ => ⟨S30x30, .f32⟩
  | .hbm, ⟨34, _⟩ => ⟨S8192x16x30, .f32⟩
  | .hbm, ⟨35, _⟩ => ⟨S8192x16x30, .f32⟩
  | .hbm, ⟨36, _⟩ => ⟨S1x1x30, .f32⟩
  | .hbm, ⟨37, _⟩ => ⟨S8192x16x30, .f32⟩
  | .hbm, ⟨38, _⟩ => ⟨S8192x16x30, .f32⟩
  | .hbm, ⟨39, _⟩ => ⟨S_, .f32⟩
  | .hbm, ⟨40, _⟩ => ⟨S8192x16x30, .f32⟩
  | .hbm, ⟨41, _⟩ => ⟨S8192x16x30, .f32⟩
  | .hbm, ⟨42, _⟩ => ⟨S_, .f32⟩
  | .hbm, ⟨43, _⟩ => ⟨S8192x30, .f32⟩
  | .hbm, ⟨44, _⟩ => ⟨S_, .f32⟩
  | .hbm, ⟨45, _⟩ => ⟨S1x30, .f32⟩
  | .hbm, ⟨46, _⟩ => ⟨S8193x30, .f32⟩
  | .hbm, ⟨47, _⟩ => ⟨S_, .i32⟩
  | .hbm, ⟨48, _⟩ => ⟨S64x256, .i32⟩
  | .hbm, ⟨49, _⟩ => ⟨S64x256, .i1⟩
  | .hbm, ⟨50, _⟩ => ⟨S_, .i32⟩
  | .hbm, ⟨51, _⟩ => ⟨S64x256, .i32⟩
  | .hbm, ⟨52, _⟩ => ⟨S64x256, .i32⟩
  | .hbm, ⟨53, _⟩ => ⟨S64x256, .i32⟩
  | .hbm, ⟨54, _⟩ => ⟨S64x256x1, .i32⟩
  | .hbm, ⟨55, _⟩ => ⟨S64x256x300, .f32⟩
  | .hbm, ⟨56, _⟩ => ⟨S_, .i32⟩
  | .hbm, ⟨57, _⟩ => ⟨S64x256, .i32⟩
  | .hbm, ⟨58, _⟩ => ⟨S64x256, .i1⟩
  | .hbm, ⟨59, _⟩ => ⟨S_, .i32⟩
  | .hbm, ⟨60, _⟩ => ⟨S64x256, .i32⟩
  | .hbm, ⟨61, _⟩ => ⟨S64x256, .i32⟩
  | .hbm, ⟨62, _⟩ => ⟨S64x256, .i32⟩
  | .hbm, ⟨63, _⟩ => ⟨S64x256x1, .i32⟩
  | .hbm, ⟨64, _⟩ => ⟨S64x256x30, .f32⟩
  | .hbm, ⟨65, _⟩ => ⟨S64x256x330, .f32⟩
  | .hbm, ⟨66, _⟩ => ⟨S256x64x330, .f32⟩
  | .hbm, ⟨67, _⟩ => ⟨S8x32x64x330, .f32⟩
  | .hbm, ⟨68, _⟩ => ⟨S8x32x64x330, .bf16⟩
  | _, _ => ⟨S500x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel4.lean ====
abbrev S256x64x256 : Shape := ⟨3, ![256, 64, 256]⟩
abbrev S64x256 : Shape := ⟨2, ![64, 256]⟩
abbrev S64 : Shape := ⟨1, ![64]⟩
abbrev S256x128 : Shape := ⟨2, ![256, 128]⟩
abbrev S128 : Shape := ⟨1, ![128]⟩
abbrev S128x17 : Shape := ⟨2, ![128, 17]⟩
abbrev S17 : Shape := ⟨1, ![17]⟩
abbrev S17x17 : Shape := ⟨2, ![17, 17]⟩
abbrev S64x8x32 : Shape := ⟨3, ![64, 8, 32]⟩
abbrev S8x32x64 : Shape := ⟨3, ![8, 32, 64]⟩
abbrev S64x1 : Shape := ⟨2, ![64, 1]⟩
abbrev S64x128 : Shape := ⟨2, ![64, 128]⟩
abbrev S256x64 : Shape := ⟨2, ![256, 64]⟩
abbrev S256x64x1 : Shape := ⟨3, ![256, 64, 1]⟩
abbrev S256x64x128 : Shape := ⟨3, ![256, 64, 128]⟩
abbrev S_ : Shape := ⟨0, ![]⟩
abbrev S128x128 : Shape := ⟨2, ![128, 128]⟩
abbrev S1x128 : Shape := ⟨2, ![1, 128]⟩
abbrev S32x64x256 : Shape := ⟨3, ![32, 64, 256]⟩
abbrev S2048x256 : Shape := ⟨2, ![2048, 256]⟩
abbrev S2048x128 : Shape := ⟨2, ![2048, 128]⟩
abbrev S32x64x128 : Shape := ⟨3, ![32, 64, 128]⟩
abbrev S1x64x128 : Shape := ⟨3, ![1, 64, 128]⟩
abbrev S1 : Shape := ⟨1, ![1]⟩
abbrev S1x1 : Shape := ⟨2, ![1, 1]⟩

abbrev nBuf : Space → Nat
  | .hbm => 53
  | .vmem => 14
  | .smem => 0
  | _ => 0

abbrev bufTy : (tb : Table) → Fin (tcTables nBuf tb) → BufTy
  | .hbm, ⟨0, _⟩ => ⟨S256x64x256, .bf16⟩
  | .hbm, ⟨1, _⟩ => ⟨S64x256, .i32⟩
  | .hbm, ⟨2, _⟩ => ⟨S64, .i32⟩
  | .hbm, ⟨3, _⟩ => ⟨S256x128, .f32⟩
  | .hbm, ⟨4, _⟩ => ⟨S128, .f32⟩
  | .hbm, ⟨5, _⟩ => ⟨S128x17, .f32⟩
  | .hbm, ⟨6, _⟩ => ⟨S17, .f32⟩
  | .hbm, ⟨7, _⟩ => ⟨S17, .f32⟩
  | .hbm, ⟨8, _⟩ => ⟨S17, .f32⟩
  | .hbm, ⟨9, _⟩ => ⟨S17x17, .f32⟩
  | .hbm, ⟨10, _⟩ => ⟨S64x8x32, .i32⟩
  | .hbm, ⟨11, _⟩ => ⟨S8x32x64, .i32⟩
  | .hbm, ⟨12, _⟩ => ⟨S64, .f32⟩
  | .hbm, ⟨13, _⟩ => ⟨S64x1, .f32⟩
  | .hbm, ⟨14, _⟩ => ⟨S64x128, .f32⟩
  | .hbm, ⟨15, _⟩ => ⟨S256x64, .i32⟩
  | .hbm, ⟨16, _⟩ => ⟨S256x64x1, .i32⟩
  | .hbm, ⟨17, _⟩ => ⟨S256x64x1, .f32⟩
  | .hbm, ⟨18, _⟩ => ⟨S256x64x128, .f32⟩
  | .hbm, ⟨19, _⟩ => ⟨S_, .i32⟩
  | .hbm, ⟨20, _⟩ => ⟨S_, .f32⟩
  | .hbm, ⟨21, _⟩ => ⟨S128x128, .f32⟩
  | .hbm, ⟨22, _⟩ => ⟨S128x128, .bf16⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S_, .i32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S17x17, .f32⟩
  | .hbm, ⟨41, _⟩ => ⟨S_, .i32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S256x128, .bf16⟩
  | .hbm, ⟨46, _⟩ => ⟨S1x128, .f32⟩
  | .hbm, ⟨47, _⟩ => ⟨S128x128, .bf16⟩
  | .hbm, ⟨48, _⟩ => ⟨S128x128, .bf16⟩
  | .hbm, ⟨49, _⟩ => ⟨S1x128, .f32⟩
  | .hbm, ⟨50, _⟩ => ⟨S1x128, .f32⟩
  | .hbm, ⟨51, _⟩ => ⟨S1x1, .f32⟩
  | .hbm, ⟨52, _⟩ => ⟨S_, .f32⟩
  | .local _ .vmem, ⟨0, _⟩ => ⟨S256x64x256, .bf16⟩
  | .local _ .vmem, ⟨1, _⟩ => ⟨S256x64x128, .f32⟩
  | .local _ .vmem, ⟨2, _⟩ => ⟨S64x128, .f32⟩
  | .local _ .vmem, ⟨3, _⟩ => ⟨S256x128, .bf16⟩
  | .local _ .vmem, ⟨4, _⟩ => ⟨S1x128, .f32⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S256x64x128, .f32⟩
  | _, _ => ⟨S256x64x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_call4_v0 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_c_4 : Ref sig .tc := ⟨.hbm, 41, rfl⟩
abbrev main_call5_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v27 : Ref sig .tc := ⟨.hbm, 51, rfl⟩
abbrev main_v28 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c255_i32 : BitVec 32 := 255#32
  let v214 : BitVec 32 := Scalar.addi c1_i32 c255_i32
  let c1_i32_145 : BitVec 32 := 1#32
  ⟨c1_i32, v214, c1_i32_145⟩
def k0_off1 (k0_t1 : Fin k0_t1_loop.trips) : Fin 3 → Nat :=
  let c1_i32 : BitVec 32 := 1#32
  let c1_i32_145 : BitVec 32 := 1#32
  let arg15 : BitVec 32 := Scf.iv c1_i32 c1_i32_145 k0_t1
  let v240 : Index := Scalar.indexCast arg15
  let c0_158 : Index := 0#32
  let c0_159 : Index := 0#32
  ![v240.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S256x64x256 : Shape := ⟨3, ![256, 64, 256]⟩
abbrev S64x256 : Shape := ⟨2, ![64, 256]⟩
abbrev S64 : Shape := ⟨1, ![64]⟩
abbrev S256x128 : Shape := ⟨2, ![256, 128]⟩
abbrev S128 : Shape := ⟨1, ![128]⟩
abbrev S128x17 : Shape := ⟨2, ![128, 17]⟩
abbrev S17 : Shape := ⟨1, ![17]⟩
abbrev S17x17 : Shape := ⟨2, ![17, 17]⟩
abbrev S256 : Shape := ⟨1, ![256]⟩
abbrev S1x256 : Shape := ⟨2, ![1, 256]⟩
abbrev S64x1 : Shape := ⟨2, ![64, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S256x64x256, .bf16⟩
  | .hbm, ⟨1, _⟩ => ⟨S64x256, .i32⟩
  | .hbm, ⟨2, _⟩ => ⟨S64, .i32⟩
  | .hbm, ⟨3, _⟩ => ⟨S256x128, .f32⟩
  | .hbm, ⟨4, _⟩ => ⟨S128, .f32⟩
  | .hbm, ⟨5, _⟩ => ⟨S128x17, .f32⟩
  | .hbm, ⟨6, _⟩ => ⟨S17, .f32⟩
  | .hbm, ⟨7, _⟩ => ⟨S17, .f32⟩
  | .hbm, ⟨8, _⟩ => ⟨S17, .f32⟩
  | .hbm, ⟨9, _⟩ => ⟨S17x17, .f32⟩
  | .hbm, ⟨10, _⟩ => ⟨S256, .i32⟩
  | .hbm, ⟨11, _⟩ => ⟨S1x256, .i32⟩
  | .hbm, ⟨12, _⟩ => ⟨S64x1, .i32⟩
  | .hbm, ⟨13, _⟩ => ⟨S64x256, .i32⟩
  | .hbm, ⟨14, _⟩ => ⟨S64x256, .i32⟩
  | .hbm, ⟨15, _⟩ => ⟨S64x256, .i1⟩
  | .hbm, ⟨16, _⟩ => ⟨S64x256, .f32⟩
  | .hbm, ⟨17, _⟩ => ⟨S_, .f32⟩
  | .hbm, ⟨18, _⟩ => ⟨S_, .f32⟩
  | _, _ => ⟨S256x64x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.LoopA.lean ====
/- The time loop of the layer's body: the states that it goes through, and what its stores leave in the
   four buffers that it writes. -/
module

public import proofs.«01_k».proof.Proof.Gen.KernelIdeal.Frame.Runs
public import Idealize.ShloMosaic.Lib.PointwiseCore
public import Idealize.ShloMosaic.Lib.WritesUnit

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The trips and their offsets -/

theorem trips_eq : k0_t1_loop.trips = 32 := by decide

theorem off1_eq : ∀ k : Fin k0_t1_loop.trips, k0_off1 k = ![k.val, 0, 0] := by decide +kernel
theorem off2_eq : ∀ k : Fin k0_t1_loop.trips, k0_off2 k = ![0, k.val, 0, 0] := by decide +kernel
theorem off3_eq : ∀ k : Fin k0_t1_loop.trips, k0_off3 k = ![31 - k.val, 0, 0] := by decide +kernel
theorem off4_eq : ∀ k : Fin k0_t1_loop.trips, k0_off4 k = ![0, 31 - k.val, 0, 0] := by decide +kernel

/-! ## One step in either direction, and the states after `n` steps -/

/-- The forward state after trip `k`, from the state `h` before it. -/
def stepF (len : Vec F S64x128 .f32) (t0 : BitVec 32) (w : Vec F S2x128x384 .bf16) (b : Vec F S2x1x384 .f32)
    (xg : Vec F S32x64x384 .f32) (k : Fin k0_t1_loop.trips) (h : Vec F S64x128 .f32) : Vec F S64x128 .f32 :=
  k0_pay3 len t0 0#32 1#32 k
    (View.ld xg (Rect.unit (s := S32x64x384) (k0_off1 k) S1x64x384.size (k0_off1_inb k))) h
    (View.ld w (Rect.unit (s := S2x128x384) ![0, 0, 0] S1x128x384.size inb_S2x128x384_S1x128x384_0_0_0))
    (View.ld b (Rect.unit (s := S2x1x384) ![0, 0, 0] S1x1x384.size inb_S2x1x384_S1x1x384_0_0_0))

/-- The backward state after trip `k`, from the state `h` before it. -/
def stepB (len : Vec F S64x128 .f32) (t0 : BitVec 32) (w : Vec F S2x128x384 .bf16) (b : Vec F S2x1x384 .f32)
    (xg : Vec F S32x64x384 .f32) (k : Fin k0_t1_loop.trips) (h : Vec F S64x128 .f32) : Vec F S64x128 .f32 :=
  k0_pay6 len t0 (Scf.iv 0#32 1#32 k) 31#32
    (View.ld xg (Rect.unit (s := S32x64x384) (k0_off3 k) S1x64x384.size (k0_off3_inb k))) h
    (View.ld w (Rect.unit (s := S2x128x384) ![1, 0, 0] S1x128x384.size inb_S2x128x384_S1x128x384_1_0_0))
    (View.ld b (Rect.unit (s := S2x1x384) ![1, 0, 0] S1x1x384.size inb_S2x1x384_S1x1x384_1_0_0))

/-- The state after the first `n` trips of a step function, from `h`. -/
def after (step : Fin k0_t1_loop.trips → Vec F S64x128 .f32 → Vec F S64x128 .f32) (h : Vec F S64x128 .f32) :
    ℕ → Vec F S64x128 .f32
  | 0 => h
  | n + 1 => if hn : n < k0_t1_loop.trips then step ⟨n, hn⟩ (after step h n) else after step h n

theorem after_succ (step : Fin k0_t1_loop.trips → Vec F S64x128 .f32 → Vec F S64x128 .f32) (h : Vec F S64x128 .f32)
    (k : Fin k0_t1_loop.trips) : after step h (k.val + 1) = step k (after step h k.val) := by
  rw [after, dif_pos k.isLt]

/-- The state's two coordinates, out of an index of an output block. -/
abbrev cell (y : S1x32x64x128.Idx) : S64x128.Idx := ix2 (y 2) (y 3)

/-! ## What one trip stores -/

theorem read_store_zero {S : Shape} {e : EltTy} {off : Fin S.rank → ℕ} (h : off = fun _ => 0) (v : View sig .tc .vmem S e)
    (f : v.ty.Contents (Elt F)) (inb) (w : Vec F S e) :
    v.read (Elt F) (v.writes (Elt F) f [(⟨Rect.unit (s := S) off S.size inb, w⟩ : View.Piece (Elt F) S e)]) = w := by
  funext y
  exact View.read_writes_cons_unit_of_mem v f inb w [] y y h (fun a => (Nat.zero_add _).symm)

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

theorem read_store_all (v : View sig .tc .vmem S64x128 .f32) (f : v.ty.Contents (Elt F)) (inb) (w : Vec F S64x128 .f32) :
    v.read (Elt F) (v.writes (Elt F) f [(⟨Rect.unit (s := S64x128) ![0, 0] S64x128.size inb, w⟩ : View.Piece (Elt F) S64x128 .f32)]) = w :=
  read_store_zero zero2 v f inb w

theorem readAt_all (v : View sig .tc .vmem S64x128 .f32) (f : v.ty.Contents (Elt F)) (inb) :
    v.readAt (Elt F) (Rect.unit (s := S64x128) ![0, 0] S64x128.size inb).toLoadRect f = v.read (Elt F) f :=
  View.ld_unit_zero (S := S64x128) zero2 inb (v.read (Elt F) f)

section trip

variable (𝒱 : Variants) (c : Dev nD) (bd : Option 𝒱.V) (i : grid0.Coords)
  (arg1 : Memref sig .tc .vmem S1x32x64x330 .bf16) (harg1 : arg1.IsWhole)
  (arg2 : Memref sig .tc .vmem S1x32x64x330 .bf16) (harg2 : arg2.IsWhole)
  (arg3 : Memref sig .tc .vmem S2x330x384 .bf16) (harg3 : arg3.IsWhole)
  (arg4 : Memref sig .tc .vmem S2x128x384 .bf16) (harg4 : arg4.IsWhole)
  (arg5 : Memref sig .tc .vmem S2x1x384 .f32) (harg5 : arg5.IsWhole)
  (arg6 : Memref sig .tc .vmem S2x1x384 .f32) (harg6 : arg6.IsWhole)
  (arg7 : Memref sig .tc .vmem S64x128 .f32) (harg7 : arg7.IsWhole)
  (arg8 : Memref sig .tc .vmem S1x32x64x128 .f32) (harg8 : arg8.IsWhole)
  (arg9 : Memref sig .tc .vmem S1x32x64x128 .f32) (harg9 : arg9.IsWhole)
  (arg10 : Memref sig .tc .vmem S32x64x384 .f32) (harg10 : arg10.IsWhole)
  (arg11 : Memref sig .tc .vmem S32x64x384 .f32) (harg11 : arg11.IsWhole)
  (arg12 : Memref sig .tc .vmem S64x128 .f32) (harg12 : arg12.IsWhole)
  (arg13 : Memref sig .tc .vmem S64x128 .f32) (harg13 : arg13.IsWhole)
  (len : Vec F S64x128 .f32) (tf tb : BitVec 32)
  (X4 : BufTy.Contents (Elt F) arg4.view.ty) (X6 : BufTy.Contents (Elt F) arg6.view.ty)
  (X10 : BufTy.Contents (Elt F) arg10.view.ty) (X11 : BufTy.Contents (Elt F) arg11.view.ty)

/-- The forward step over the contents that the loop finds in its buffers. -/
abbrev stF : Fin k0_t1_loop.trips → Vec F S64x128 .f32 → Vec F S64x128 .f32 :=
  stepF len tf (arg4.view.read (Elt F) X4) (arg6.view.read (Elt F) X6) (arg10.view.read (Elt F) X10)
/-- The backward step over the contents that the loop finds in its buffers. -/
abbrev stB : Fin k0_t1_loop.trips → Vec F S64x128 .f32 → Vec F S64x128 .f32 :=
  stepB len tb (arg4.view.read (Elt F) X4) (arg6.view.read (Elt F) X6) (arg11.view.read (Elt F) X11)

theorem cast_same (h : S64x128.ShapeCasts S64x128) (x : Vec F S64x128 .f32) : shapeCast S64x128 x h = x := by
  funext j; pointwise

theorem pay4_eq (a b c d e f g h j) : k0_pay4 (F := F) a b c d e f g h j = k0_pay3 a b c d e f g h j := by
  unfold k0_pay4; exact cast_same _ _
theorem pay7_eq (a b c d e f g h) : k0_pay7 (F := F) a b c d e f g h = k0_pay6 a b c d e f g h := by
  unfold k0_pay7; exact cast_same _ _
theorem pay5_apply (a b c d e f g h j) (y : S1x1x64x128.Idx) :
    k0_pay5 (F := F) a b c d e f g h j y = k0_pay3 a b c d e f g h j (ix2 (y 2) (y 3)) := by
  unfold k0_pay5; generalize k0_pay3 (F := F) a b c d e f g h j = v; pointwise
theorem pay8_apply (a b c d e f g h) (y : S1x1x64x128.Idx) :
    k0_pay8 (F := F) a b c d e f g h y = k0_pay6 a b c d e f g h (ix2 (y 2) (y 3)) := by
  unfold k0_pay8; generalize k0_pay6 (F := F) a b c d e f g h = v; pointwise

theorem trip12 (k : Fin k0_t1_loop.trips) (f8 f9 f12 f13) :
    arg12.view.read (Elt F) (arg12.view.writes (Elt F) f12 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.2.1 f8 f9 f12 f13))
      = stF arg4 arg6 arg10 len tf X4 X6 X10 k (arg12.view.read (Elt F) f12) := by
  unfold trip_k0_t1
  dsimp only
  rw [read_store_all, pay4_eq, readAt_all]
  rfl

theorem trip13 (k : Fin k0_t1_loop.trips) (f8 f9 f12 f13) :
    arg13.view.read (Elt F) (arg13.view.writes (Elt F) f13 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.2.2.1 f8 f9 f12 f13))
      = stB arg4 arg6 arg11 len tb X4 X6 X11 k (arg13.view.read (Elt F) f13) := by
  unfold trip_k0_t1
  dsimp only
  rw [read_store_all, pay7_eq, readAt_all]
  rfl

theorem trip8_hit (k : Fin k0_t1_loop.trips) (f8 f9 f12 f13) (y : S1x32x64x128.Idx) (hy : (y 1).val = k.val) :
    arg8.view.read (Elt F) (arg8.view.writes (Elt F) f8 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).1 f8 f9 f12 f13)) y
      = stF arg4 arg6 arg10 len tf X4 X6 X10 k (arg12.view.read (Elt F) f12) (cell y) := by
  unfold trip_k0_t1
  dsimp only
  refine (View.read_writes_cons_unit_of_mem (s := S1x32x64x128) arg8.view f8 _ _ [] y (ix4 0 0 (y 2) (y 3)) (off2_eq k) ?_).trans ?_
  · intro a
    fin_cases a
    · show (y 0).val = 0 + 0
      have := (y 0).isLt; change (y 0).val < 1 at this; omega
    · exact hy
    · exact (Nat.zero_add _).symm
    · exact (Nat.zero_add _).symm
  · refine (pay5_apply _ _ _ _ _ _ _ _ _ _).trans ?_
    rw [readAt_all]
    rfl

theorem trip8_miss (k : Fin k0_t1_loop.trips) (f8 f9 f12 f13) (y : S1x32x64x128.Idx) (hy : (y 1).val ≠ k.val) :
    arg8.view.read (Elt F) (arg8.view.writes (Elt F) f8 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).1 f8 f9 f12 f13)) y
      = arg8.view.read (Elt F) f8 y := by
  unfold trip_k0_t1
  dsimp only
  refine (View.read_writes_cons_unit_of_not_mem (s := S1x32x64x128) arg8.view f8 _ _ [] y (off2_eq k) 1 ?_).trans rfl
  show (y 1).val < k.val ∨ k.val + 1 ≤ (y 1).val
  omega

theorem trip9_hit (k : Fin k0_t1_loop.trips) (f8 f9 f12 f13) (y : S1x32x64x128.Idx) (hy : (y 1).val = 31 - k.val) :
    arg9.view.read (Elt F) (arg9.view.writes (Elt F) f9 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.1 f8 f9 f12 f13)) y
      = stB arg4 arg6 arg11 len tb X4 X6 X11 k (arg13.view.read (Elt F) f13) (cell y) := by
  unfold trip_k0_t1
  dsimp only
  refine (View.read_writes_cons_unit_of_mem (s := S1x32x64x128) arg9.view f9 _ _ [] y (ix4 0 0 (y 2) (y 3)) (off4_eq k) ?_).trans ?_
  · intro a
    fin_cases a
    · show (y 0).val = 0 + 0
      have := (y 0).isLt; change (y 0).val < 1 at this; omega
    · exact hy
    · exact (Nat.zero_add _).symm
    · exact (Nat.zero_add _).symm
  · refine (pay8_apply _ _ _ _ _ _ _ _ _).trans ?_
    rw [readAt_all]
    rfl

theorem trip9_miss (k : Fin k0_t1_loop.trips) (f8 f9 f12 f13) (y : S1x32x64x128.Idx) (hy : (y 1).val ≠ 31 - k.val) :
    arg9.view.read (Elt F) (arg9.view.writes (Elt F) f9 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.1 f8 f9 f12 f13)) y
      = arg9.view.read (Elt F) f9 y := by
  unfold trip_k0_t1
  dsimp only
  refine (View.read_writes_cons_unit_of_not_mem (s := S1x32x64x128) arg9.view f9 _ _ [] y (off4_eq k) 1 ?_).trans rfl
  show (y 1).val < 31 - k.val ∨ 31 - k.val + 1 ≤ (y 1).val
  omega

/-! ## What the loop leaves after `n` trips -/

variable (G8 : BufTy.Contents (Elt F) arg8.view.ty) (G9 : BufTy.Contents (Elt F) arg9.view.ty)
  (G12 : BufTy.Contents (Elt F) arg12.view.ty) (G13 : BufTy.Contents (Elt F) arg13.view.ty)

/-- The four buffers after `n` trips: the two states, and the rows of the two outputs that those trips wrote. -/
theorem loop_values (n : ℕ) (hn : n ≤ k0_t1_loop.trips) :
    arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).2.2.1)
        = after (stF arg4 arg6 arg10 len tf X4 X6 X10) (arg12.view.read (Elt F) G12) n
    ∧ arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).2.2.2)
        = after (stB arg4 arg6 arg11 len tb X4 X6 X11) (arg13.view.read (Elt F) G13) n
    ∧ (∀ y : S1x32x64x128.Idx, (y 1).val < n →
        arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).1) y
          = after (stF arg4 arg6 arg10 len tf X4 X6 X10) (arg12.view.read (Elt F) G12) ((y 1).val + 1) (cell y))
    ∧ (∀ y : S1x32x64x128.Idx, 31 - (y 1).val < n →
        arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).2.1) y
          = after (stB arg4 arg6 arg11 len tb X4 X6 X11) (arg13.view.read (Elt F) G13) (31 - (y 1).val + 1) (cell y)) := by
  induction n with
  | zero => exact ⟨rfl, rfl, fun y h => absurd h (Nat.not_lt_zero _), fun y h => absurd h (Nat.not_lt_zero _)⟩
  | succ n ih =>
    obtain ⟨i12, i13, i8, i9⟩ := ih (Nat.le_of_succ_le hn)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 ⟨n, hn⟩
    have ht := trips_eq
    dsimp only at e
    rw [e]
    dsimp only [tripL_k0_t1]
    refine ⟨?_, ?_, ?_, ?_⟩
    · rw [View.writes_append, trip12, i12, after_succ _ _ ⟨n, hn⟩]
    · rw [View.writes_append, trip13, i13, after_succ _ _ ⟨n, hn⟩]
    · intro y hy
      rw [View.writes_append]
      by_cases h : (y 1).val = n
      · rw [trip8_hit (hy := h), i12, h, after_succ _ _ ⟨n, hn⟩]
      · rw [trip8_miss (hy := h)]
        exact i8 y (by omega)
    · intro y hy
      rw [View.writes_append]
      have hl := (y 1).isLt
      change (y 1).val < 32 at hl
      by_cases h : (y 1).val = 31 - n
      · have h' : 31 - (y 1).val = n := by omega
        rw [trip9_hit (hy := h), i13, h', after_succ _ _ ⟨n, hn⟩]
      · rw [trip9_miss (hy := h)]
        exact i9 y (by omega)

end trip

end Cert.KernelIdeal.Layer
end
-- ==== Proof.BodyA.lean ====
/- One point of the layer's grid: what the body leaves in its two output blocks and in the two states that it
   carries, from the blocks that it is given and the states that it starts from. -/
module

public import proofs.«01_k».proof.Proof.LoopA

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The forward input terms of one block of 32 steps: its product with the input weights, plus their bias. -/
def xgF (x : Vec F S1x32x64x330 .bf16) (w : Vec F S2x330x384 .bf16) (b : Vec F S2x1x384 .f32) : Vec F S32x64x384 .f32 :=
  k0_pay9 x (View.ld w (Rect.unit (s := S2x330x384) ![0, 0, 0] S1x330x384.size inb_S2x330x384_S1x330x384_0_0_0))
    (View.ld b (Rect.unit (s := S2x1x384) ![0, 0, 0] S1x1x384.size inb_S2x1x384_S1x1x384_0_0_0))

/-- The backward input terms of one block. -/
def xgB (x : Vec F S1x32x64x330 .bf16) (w : Vec F S2x330x384 .bf16) (b : Vec F S2x1x384 .f32) : Vec F S32x64x384 .f32 :=
  k0_pay10 x (View.ld w (Rect.unit (s := S2x330x384) ![1, 0, 0] S1x330x384.size inb_S2x330x384_S1x330x384_1_0_0))
    (View.ld b (Rect.unit (s := S2x1x384) ![1, 0, 0] S1x1x384.size inb_S2x1x384_S1x1x384_1_0_0))

/-- The time at which the forward block of grid point `i` starts; -/
def tF (i : grid0.Coords) : BitVec 32 := Scalar.muli (BitVec.ofNat 32 (i 0).val) 32#32
/-- and the backward block. -/
def tB (i : grid0.Coords) : BitVec 32 := Scalar.muli (Scalar.subi 7#32 (BitVec.ofNat 32 (i 0).val)) 32#32

section point

variable (i : grid0.Coords) (x0 x1 : Vec F S1x32x64x330 .bf16) (x2 : Vec F S2x330x384 .bf16) (x3 : Vec F S2x128x384 .bf16)
  (x4 x5 : Vec F S2x1x384 .f32) (x6 : Vec F S64x128 .f32)

/-- The forward states inside the block, from the state `h` before it. -/
def hF (h : Vec F S64x128 .f32) : ℕ → Vec F S64x128 .f32 := after (stepF x6 (tF i) x3 x5 (xgF x0 x2 x4)) h
/-- The backward states inside the block, from the state `h` before it. -/
def hB (h : Vec F S64x128 .f32) : ℕ → Vec F S64x128 .f32 := after (stepB x6 (tB i) x3 x5 (xgB x1 x2 x4)) h

/-- The forward output block: row `r` is the state after step `r`. -/
def blockF (h : Vec F S64x128 .f32) : Vec F S1x32x64x128 .f32 := fun y => hF i x0 x2 x3 x4 x5 x6 h ((y 1).val + 1) (cell y)
/-- The backward output block: row `r` is the state after the step that reads row `r`, of those taken from row 31 down. -/
def blockB (h : Vec F S64x128 .f32) : Vec F S1x32x64x128 .f32 := fun y => hB i x1 x2 x3 x4 x5 x6 h (31 - (y 1).val + 1) (cell y)

end point

/-- What the body's loop leaves: the two output blocks and the two carried states. -/
theorem loop_out (c : Dev nD) (i : grid0.Coords)
    (arg1 : Memref sig .tc .vmem S1x32x64x330 .bf16) (harg1 : arg1.IsWhole)
    (arg2 : Memref sig .tc .vmem S1x32x64x330 .bf16) (harg2 : arg2.IsWhole)
    (arg3 : Memref sig .tc .vmem S2x330x384 .bf16) (harg3 : arg3.IsWhole)
    (arg4 : Memref sig .tc .vmem S2x128x384 .bf16) (harg4 : arg4.IsWhole)
    (arg5 : Memref sig .tc .vmem S2x1x384 .f32) (harg5 : arg5.IsWhole)
    (arg6 : Memref sig .tc .vmem S2x1x384 .f32) (harg6 : arg6.IsWhole)
    (arg7 : Memref sig .tc .vmem S64x128 .f32) (harg7 : arg7.IsWhole)
    (arg8 : Memref sig .tc .vmem S1x32x64x128 .f32) (harg8 : arg8.IsWhole)
    (arg9 : Memref sig .tc .vmem S1x32x64x128 .f32) (harg9 : arg9.IsWhole)
    (arg10 : Memref sig .tc .vmem S32x64x384 .f32) (harg10 : arg10.IsWhole)
    (arg11 : Memref sig .tc .vmem S32x64x384 .f32) (harg11 : arg11.IsWhole)
    (arg12 : Memref sig .tc .vmem S64x128 .f32) (harg12 : arg12.IsWhole)
    (arg13 : Memref sig .tc .vmem S64x128 .f32) (harg13 : arg13.IsWhole)
    (x0 x1 : Vec F S1x32x64x330 .bf16) (x2 : Vec F S2x330x384 .bf16) (x3 : Vec F S2x128x384 .bf16)
    (x4 x5 : Vec F S2x1x384 .f32) (x6 : Vec F S64x128 .f32) (sF sB : Vec F S64x128 .f32)
    {len : Vec F S64x128 .f32}
    {X4 : BufTy.Contents (Elt F) arg4.view.ty} {X6 : BufTy.Contents (Elt F) arg6.view.ty}
    {X10 : BufTy.Contents (Elt F) arg10.view.ty} {X11 : BufTy.Contents (Elt F) arg11.view.ty}
    (G8 : BufTy.Contents (Elt F) arg8.view.ty) (G9 : BufTy.Contents (Elt F) arg9.view.ty)
    {G12 : BufTy.Contents (Elt F) arg12.view.ty} {G13 : BufTy.Contents (Elt F) arg13.view.ty}
    (hlen : len = x6) (h4 : arg4.view.read (Elt F) X4 = x3) (h6 : arg6.view.read (Elt F) X6 = x5)
    (h10 : arg10.view.read (Elt F) X10 = xgF x0 x2 x4) (h11 : arg11.view.read (Elt F) X11 = xgB x1 x2 x4)
    (h12 : arg12.view.read (Elt F) G12 = sF) (h13 : arg13.view.read (Elt F) G13 = sB) :
    arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).1) = blockF i x0 x2 x3 x4 x5 x6 sF
    ∧ arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).2.1) = blockB i x1 x2 x3 x4 x5 x6 sB
    ∧ arg12.view.read (Elt F) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).2.2.1) = hF i x0 x2 x3 x4 x5 x6 sF 32
    ∧ arg13.view.read (Elt F) (arg13.view.writes (Elt F) G13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).2.2.2) = hB i x1 x2 x3 x4 x5 x6 sB 32 := by
  subst hlen
  obtain ⟨a12, a13, a8, a9⟩ := loop_values (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips le_rfl
  unfold stF stB at *
  rw [h4, h6] at a12 a13 a8 a9
  rw [h10, h12] at a12 a8
  rw [h11, h13] at a13 a9
  have ht := trips_eq
  refine ⟨?_, ?_, ?_, ?_⟩
  · funext y
    have hl := (y 1).isLt
    change (y 1).val < 32 at hl
    rw [a8 y (by omega)]
    rfl
  · funext y
    rw [a9 y (by omega)]
    rfl
  · rw [a12, ht]; rfl
  · rw [a13, ht]; rfl

/-- The body at the first point, which sets both states to zero. -/
theorem body_first (c : Dev nD) (i : grid0.Coords)
    (arg1 : Memref sig .tc .vmem S1x32x64x330 .bf16) (harg1 : arg1.IsWhole)
    (arg2 : Memref sig .tc .vmem S1x32x64x330 .bf16) (harg2 : arg2.IsWhole)
    (arg3 : Memref sig .tc .vmem S2x330x384 .bf16) (harg3 : arg3.IsWhole)
    (arg4 : Memref sig .tc .vmem S2x128x384 .bf16) (harg4 : arg4.IsWhole)
    (arg5 : Memref sig .tc .vmem S2x1x384 .f32) (harg5 : arg5.IsWhole)
    (arg6 : Memref sig .tc .vmem S2x1x384 .f32) (harg6 : arg6.IsWhole)
    (arg7 : Memref sig .tc .vmem S64x128 .f32) (harg7 : arg7.IsWhole)
    (arg8 : Memref sig .tc .vmem S1x32x64x128 .f32) (harg8 : arg8.IsWhole)
    (arg9 : Memref sig .tc .vmem S1x32x64x128 .f32) (harg9 : arg9.IsWhole)
    (arg10 : Memref sig .tc .vmem S32x64x384 .f32) (harg10 : arg10.IsWhole)
    (arg11 : Memref sig .tc .vmem S32x64x384 .f32) (harg11 : arg11.IsWhole)
    (arg12 : Memref sig .tc .vmem S64x128 .f32) (harg12 : arg12.IsWhole)
    (arg13 : Memref sig .tc .vmem S64x128 .f32) (harg13 : arg13.IsWhole)
    (hc0 : cond0_0 i)
    (x0 x1 : Vec F S1x32x64x330 .bf16) (x2 : Vec F S2x330x384 .bf16) (x3 : Vec F S2x128x384 .bf16)
    (x4 x5 : Vec F S2x1x384 .f32) (x6 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6
          ∗ owns (c : Thread nD τ) arg8 fullShare (blockF i x0 x2 x3 x4 x5 x6 k0_pay1)
          ∗ owns (c : Thread nD τ) arg9 fullShare (blockB i x1 x2 x3 x4 x5 x6 k0_pay2)
          ∗ (∃ d, owns (c : Thread nD τ) arg10 fullShare d) ∗ (∃ d, owns (c : Thread nD τ) arg11 fullShare d)
          ∗ owns (c : Thread nD τ) arg12 fullShare (hF i x0 x2 x3 x4 x5 x6 k0_pay1 32)
          ∗ owns (c : Thread nD τ) arg13 fullShare (hB i x1 x2 x3 x4 x5 x6 k0_pay2 32)) -∗ K ⟨⟩))
      ⊢ wp frame (wpE (defs₀ (F := F)) Variants.none c none) E (cc0_bigru_layer i arg1 harg1 arg2 harg2 arg3 harg3 arg4 harg4 arg5 harg5 arg6 harg6 arg7 harg7 arg8 harg8 arg9 harg9 arg10 harg10 arg11 harg11 arg12 harg12 arg13 harg13) K := by
  simp only [cc0_bigru_layer_eq_skeleton]; unfold cc0_bigru_layer_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  have hx10 : arg10.view.read (Elt F) (arg10.view.writes (Elt F) arg10.view.junk (body_first.sl.HS0_1 c arg1 harg1 arg3 harg3 arg5 harg5 x0 x2 x4)) = xgF x0 x2 x4 := by
    sl_unfold_words
    rw [read_store_zero zero3]
    simp only [View.readAt_eq_ld, harg1.read_unread, harg3.read_unread, harg5.read_unread]
    rw [View.ld_unit_zero (S := S1x32x64x330) zero4]
    rfl
  have hx11 : arg11.view.read (Elt F) (arg11.view.writes (Elt F) arg11.view.junk (body_first.sl.HS1_1 c arg2 harg2 arg3 harg3 arg5 harg5 x1 x2 x4)) = xgB x1 x2 x4 := by
    sl_unfold_words
    rw [read_store_zero zero3]
    simp only [View.readAt_eq_ld, harg2.read_unread, harg3.read_unread, harg5.read_unread]
    rw [View.ld_unit_zero (S := S1x32x64x330) zero4]
    rfl
  have hout := loop_out c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 k0_pay1 k0_pay2 f7 f8 ((readAt_all arg7.view (harg7.unread x6) inb_S64x128_S64x128_0_0).trans (harg7.read_unread x6))
    (harg4.read_unread x3) (harg6.read_unread x5) hx10 hx11
    (G12 := arg12.view.writes (Elt F) arg12.view.junk body_first.sl.HS2_1) (G13 := arg13.view.writes (Elt F) arg13.view.junk body_first.sl.HS3_1) (by sl_unfold_words; exact read_store_all _ _ _ _) (by sl_unfold_words; exact read_store_all _ _ _ _)
  isplitl [H7]
  · iexists _; isplitr; swap; · iexact H7
    ipureintro
    exact hout.1
  isplitl [H8]
  · iexists _; isplitr; swap; · iexact H8
    ipureintro
    exact hout.2.1
  isplitl [HS0]
  · iexists _, _; isplitr; swap; · iexact HS0
    ipureintro; rfl
  isplitl [HS1]
  · iexists _, _; isplitr; swap; · iexact HS1
    ipureintro; rfl
  isplitl [HS2]
  · iexists _; isplitr; swap; · iexact HS2
    ipureintro
    rw [View.writes_append]; exact hout.2.2.1
  iexists _; isplitr; swap; · iexact HS3
  ipureintro
  rw [View.writes_append]; exact hout.2.2.2

/-- The body at a later point, which goes on from the states that the point before left. -/
theorem body_next (c : Dev nD) (i : grid0.Coords)
    (arg1 : Memref sig .tc .vmem S1x32x64x330 .bf16) (harg1 : arg1.IsWhole)
    (arg2 : Memref sig .tc .vmem S1x32x64x330 .bf16) (harg2 : arg2.IsWhole)
    (arg3 : Memref sig .tc .vmem S2x330x384 .bf16) (harg3 : arg3.IsWhole)
    (arg4 : Memref sig .tc .vmem S2x128x384 .bf16) (harg4 : arg4.IsWhole)
    (arg5 : Memref sig .tc .vmem S2x1x384 .f32) (harg5 : arg5.IsWhole)
    (arg6 : Memref sig .tc .vmem S2x1x384 .f32) (harg6 : arg6.IsWhole)
    (arg7 : Memref sig .tc .vmem S64x128 .f32) (harg7 : arg7.IsWhole)
    (arg8 : Memref sig .tc .vmem S1x32x64x128 .f32) (harg8 : arg8.IsWhole)
    (arg9 : Memref sig .tc .vmem S1x32x64x128 .f32) (harg9 : arg9.IsWhole)
    (arg10 : Memref sig .tc .vmem S32x64x384 .f32) (harg10 : arg10.IsWhole)
    (arg11 : Memref sig .tc .vmem S32x64x384 .f32) (harg11 : arg11.IsWhole)
    (arg12 : Memref sig .tc .vmem S64x128 .f32) (harg12 : arg12.IsWhole)
    (arg13 : Memref sig .tc .vmem S64x128 .f32) (harg13 : arg13.IsWhole)
    (hc0 : ¬cond0_0 i)
    (x0 x1 : Vec F S1x32x64x330 .bf16) (x2 : Vec F S2x330x384 .bf16) (x3 : Vec F S2x128x384 .bf16)
    (x4 x5 : Vec F S2x1x384 .f32) (x6 : Vec F S64x128 .f32) (s2 s3 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ owns (c : Thread nD τ) arg12 fullShare s2 ∗ owns (c : Thread nD τ) arg13 fullShare s3
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6
          ∗ owns (c : Thread nD τ) arg8 fullShare (blockF i x0 x2 x3 x4 x5 x6 s2)
          ∗ owns (c : Thread nD τ) arg9 fullShare (blockB i x1 x2 x3 x4 x5 x6 s3)
          ∗ (∃ d, owns (c : Thread nD τ) arg10 fullShare d) ∗ (∃ d, owns (c : Thread nD τ) arg11 fullShare d)
          ∗ owns (c : Thread nD τ) arg12 fullShare (hF i x0 x2 x3 x4 x5 x6 s2 32)
          ∗ owns (c : Thread nD τ) arg13 fullShare (hB i x1 x2 x3 x4 x5 x6 s3 32)) -∗ K ⟨⟩))
      ⊢ wp frame (wpE (defs₀ (F := F)) Variants.none c none) E (cc0_bigru_layer i arg1 harg1 arg2 harg2 arg3 harg3 arg4 harg4 arg5 harg5 arg6 harg6 arg7 harg7 arg8 harg8 arg9 harg9 arg10 harg10 arg11 harg11 arg12 harg12 arg13 harg13) K := by
  simp only [cc0_bigru_layer_eq_skeleton]; unfold cc0_bigru_layer_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs2; obtain rfl := harg13.eq_unread hfs3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  have hx10 : arg10.view.read (Elt F) (arg10.view.writes (Elt F) arg10.view.junk (body_next.sl.HS0_1 c arg1 harg1 arg3 harg3 arg5 harg5 x0 x2 x4)) = xgF x0 x2 x4 := by
    sl_unfold_words
    rw [read_store_zero zero3]
    simp only [View.readAt_eq_ld, harg1.read_unread, harg3.read_unread, harg5.read_unread]
    rw [View.ld_unit_zero (S := S1x32x64x330) zero4]
    rfl
  have hx11 : arg11.view.read (Elt F) (arg11.view.writes (Elt F) arg11.view.junk (body_next.sl.HS1_1 c arg2 harg2 arg3 harg3 arg5 harg5 x1 x2 x4)) = xgB x1 x2 x4 := by
    sl_unfold_words
    rw [read_store_zero zero3]
    simp only [View.readAt_eq_ld, harg2.read_unread, harg3.read_unread, harg5.read_unread]
    rw [View.ld_unit_zero (S := S1x32x64x330) zero4]
    rfl
  have hout := loop_out c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 s2 s3 f7 f8 ((readAt_all arg7.view (harg7.unread x6) inb_S64x128_S64x128_0_0).trans (harg7.read_unread x6))
    (harg4.read_unread x3) (harg6.read_unread x5) hx10 hx11
    (G12 := harg12.unread s2) (G13 := harg13.unread s3) (harg12.read_unread s2) (harg13.read_unread s3)
  isplitl [H7]
  · iexists _; isplitr; swap; · iexact H7
    ipureintro
    exact hout.1
  isplitl [H8]
  · iexists _; isplitr; swap; · iexact H8
    ipureintro
    exact hout.2.1
  isplitl [HS0]
  · iexists _, _; isplitr; swap; · iexact HS0
    ipureintro; rfl
  isplitl [HS1]
  · iexists _, _; isplitr; swap; · iexact HS1
    ipureintro; rfl
  isplitl [HS2]
  · iexists _; isplitr; swap; · iexact HS2
    ipureintro
    exact hout.2.2.1
  iexists _; isplitr; swap; · iexact HS3
  ipureintro
  exact hout.2.2.2

end Cert.KernelIdeal.Layer
end
-- ==== Proof.FrameA.lean ====
/- The layer's launch: the states carried from point to point, what every point leaves, the frame, and the two result
   arrays after the run. -/
module

public import proofs.«01_k».proof.Proof.BodyA
public import Idealize.ShloMosaic.Lib.Claim

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The states before each point -/

/-- The two states before point `n`: zeros before the first, then what the point before left. -/
def carry (c : Dev nD) : (n : ℕ) → n ≤ cfg0.N → Vec F S64x128 .f32 × Vec F S64x128 .f32
  | 0, _ => (k0_pay1, k0_pay2)
  | n + 1, hn =>
    (hF (grid0.coords ⟨n, hn⟩) (iblk m c 0 ⟨n, hn⟩) (iblk m c 2 ⟨n, hn⟩) (iblk m c 3 ⟨n, hn⟩) (iblk m c 4 ⟨n, hn⟩) (iblk m c 5 ⟨n, hn⟩) (iblk m c 6 ⟨n, hn⟩) (carry c n (Nat.le_of_succ_le hn)).1 32,
     hB (grid0.coords ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (carry c n (Nat.le_of_succ_le hn)).2 32)

theorem carry_zero (c : Dev nD) (n : ℕ) (h : n ≤ cfg0.N) (hz : n = 0) : carry m c n h = (k0_pay1, k0_pay2) := by
  subst hz; rfl

theorem carry_succ (c : Dev nD) (t : Fin cfg0.N) :
    carry m c (t.val + 1) t.isLt
      = (hF (grid0.coords t) (iblk m c 0 t) (iblk m c 2 t) (iblk m c 3 t) (iblk m c 4 t) (iblk m c 5 t) (iblk m c 6 t) (carry m c t.val (Nat.le_of_lt t.isLt)).1 32,
         hB (grid0.coords t) (iblk m c 1 t) (iblk m c 2 t) (iblk m c 3 t) (iblk m c 4 t) (iblk m c 5 t) (iblk m c 6 t) (carry m c t.val (Nat.le_of_lt t.isLt)).2 32) := rfl

/-- What point `t` leaves in the forward output block; -/
def outF (c : Dev nD) (t : Fin cfg0.N) : Vec F S1x32x64x128 .f32 :=
  blockF (grid0.coords t) (iblk m c 0 t) (iblk m c 2 t) (iblk m c 3 t) (iblk m c 4 t) (iblk m c 5 t) (iblk m c 6 t) (carry m c t.val (Nat.le_of_lt t.isLt)).1
/-- and in the backward one. -/
def outB (c : Dev nD) (t : Fin cfg0.N) : Vec F S1x32x64x128 .f32 :=
  blockB (grid0.coords t) (iblk m c 1 t) (iblk m c 2 t) (iblk m c 3 t) (iblk m c 4 t) (iblk m c 5 t) (iblk m c 6 t) (carry m c t.val (Nat.le_of_lt t.isLt)).2

/-- What the launch holds beside the windows before point `n`: the scratch and the generator register, the two carried
    states at `carry` from the second point on. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((carry m c (n + 1) hn).1) ∗ owns (c : Thread nD τ) scM0_3 fullShare ((carry m c (n + 1) hn).2)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((carry m c n h).1) ∗ owns (c : Thread nD τ) scM0_3 fullShare ((carry m c n h).2)) ∗ (∃ r, prngReg c r)) := by
  cases n with
  | zero => exact absurd rfl hz
  | succ n => rfl

/-! ## The pipeline's proof data -/

/-- The arrays as the launch finds them; after point `t` each input's buffer at its block and the outputs' at `outF`, `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outF m c t
    | ⟨8, _⟩ => outB m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outF m c t := by dsimp only [dats]
theorem after0_8 (c : Dev nD) (t : Fin cfg0.N) : (dats m 0 c).after 8 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the first starts from zeros, a later one from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_pos m c _ _ (Nat.succ_ne_zero _),
    carry_succ, PhiS_castSucc m c t]
  unfold outF outB
  have hN : t.val < 8 := lt_of_lt_of_eq t.isLt (show cfg0.N = 8 from N_0)
  by_cases hz : t.val = 0
  · rw [PhiS_zero m c _ _ hz, PhiA0_eq, carry_zero m c _ _ hz]
    dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_next c (grid0.coords t) _ _ _ _ _ _ _ _ _ _ _ _ _ _ _ _ _ _ _ _ _ _ _ _ _ _ (fun h => hz (by have := (hcond0_0 t).mp h; omega)) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the carried states are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexact HS0
    isplitl [HS1]; · iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the frame claim's statement, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Layer
end
-- ==== Proof.BitsA.lean ====
/- The frame of the program over bit patterns, from the frame proved over any floats: the two prints are the same program. -/
module
public import proofs.«01_k».proof.Defs
public import proofs.«01_k».proof.Proof.FrameA
public import proofs.«01_k».proof.Proof.Gen.Kernel.Launch
@[expose] public section
set_option maxRecDepth 16384
open Idealize.ShloMosaic Idealize.ShloMosaic.TcCoe
namespace Cert.Kernel.Layer

theorem defs₀_eq : (Cert.Kernel.defs₀ (F := Bits)) = (Cert.KernelIdeal.defs₀ (F := Bits)) := by
  unfold Cert.Kernel.defs₀ Cert.KernelIdeal.defs₀
  refine congrArg Defs.onTc ?_
  funext l
  fin_cases l
  rfl

theorem defs_eq : (Cert.Kernel.defs (F := Bits)) = (Cert.KernelIdeal.defs (F := Bits)) :=
  congrArg (Pipeline.defs (Cert.KernelIdeal.pcfgs (F := Bits))) defs₀_eq

theorem frame : Cert.quiescent_Kernel := fun m g _ => by
  rw [defs_eq]
  exact Cert.KernelIdeal.Layer.frame (F := Bits) m g

end Cert.Kernel.Layer
-- ==== Proof.Gru.lean ====
/- The recurrence of a gated recurrent layer on extended reals, in the two forms in which a step may be
   written, and their equality. -/
module

public import Idealize.ShloMosaic.Lib.Pointwise

@[expose] public section

noncomputable section

namespace Cert.Gru

open Idealize.ShloMosaic
open scoped BigOperators

/-- A row of 128 states times the recurrent weights, plus the bias: entry `g` of the 384 gates. -/
def gate (w : Fin 128 → Fin 384 → EReal) (b : Fin 384 → EReal) (h : Fin 128 → EReal) (g : Fin 384) : EReal :=
  ∑ x, h x * w x g + b g

/-- The reset gate of lane `l`, -/
def reset (w : Fin 128 → Fin 384 → EReal) (b : Fin 384 → EReal) (x : Fin 384 → EReal) (h : Fin 128 → EReal)
    (l : Fin 128) : EReal :=
  Ideal.logistic (x ⟨l.val, by omega⟩ + gate w b h ⟨l.val, by omega⟩)

/-- its update gate, -/
def update (w : Fin 128 → Fin 384 → EReal) (b : Fin 384 → EReal) (x : Fin 384 → EReal) (h : Fin 128 → EReal)
    (l : Fin 128) : EReal :=
  Ideal.logistic (x ⟨128 + l.val, by omega⟩ + gate w b h ⟨128 + l.val, by omega⟩)

/-- and its candidate state. -/
def candidate (w : Fin 128 → Fin 384 → EReal) (b : Fin 384 → EReal) (x : Fin 384 → EReal) (h : Fin 128 → EReal)
    (l : Fin 128) : EReal :=
  Ideal.tanh (x ⟨256 + l.val, by omega⟩ + reset w b x h l * gate w b h ⟨256 + l.val, by omega⟩)

/-- One step in the form that moves the candidate towards the old state; a row whose length is not above `n`
    keeps its state. -/
def stepK (w : Fin 128 → Fin 384 → EReal) (b : Fin 384 → EReal) (n : ℤ) (len : Fin 128 → EReal)
    (x : Fin 384 → EReal) (h : Fin 128 → EReal) (l : Fin 128) : EReal :=
  if ((n : ℝ) : EReal) < len l then candidate w b x h l + update w b x h l * (h l - candidate w b x h l) else h l

/-- One step in the form of a weighted mean of the candidate and the old state. -/
def stepR (w : Fin 128 → Fin 384 → EReal) (b : Fin 384 → EReal) (n : ℤ) (len : Fin 128 → EReal)
    (x : Fin 384 → EReal) (h : Fin 128 → EReal) (l : Fin 128) : EReal :=
  if ((n : ℝ) : EReal) < len l then (1 - update w b x h l) * candidate w b x h l + update w b x h l * h l else h l

theorem logistic_real (x : EReal) : ∃ r : ℝ, Ideal.logistic x = r := by
  induction x using EReal.rec with
  | bot => exact ⟨0, by simp⟩
  | top => exact ⟨1, by simp⟩
  | coe r => exact ⟨_, Ideal.logistic_coe r⟩

theorem tanh_real (x : EReal) : ∃ r : ℝ, Ideal.tanh x = r := by
  induction x using EReal.rec with
  | bot => exact ⟨-1, by simp⟩
  | top => exact ⟨1, by simp⟩
  | coe r => exact ⟨_, Ideal.tanh_coe r⟩

/-- From a real state the two forms give the same, and a real state again. -/
theorem step_eq (w : Fin 128 → Fin 384 → EReal) (b : Fin 384 → EReal) (n : ℤ) (len : Fin 128 → EReal)
    (x : Fin 384 → EReal) (h : Fin 128 → EReal) (l : Fin 128) (hr : ∃ r : ℝ, h l = r) :
    stepK w b n len x h l = stepR w b n len x h l ∧ ∃ r : ℝ, stepK w b n len x h l = r := by
  obtain ⟨r, hr⟩ := hr
  obtain ⟨z, hz⟩ : ∃ z : ℝ, update w b x h l = z := logistic_real _
  obtain ⟨c, hc⟩ : ∃ c : ℝ, candidate w b x h l = c := tanh_real _
  unfold stepK stepR
  rw [hz, hc, hr]
  by_cases hm : ((n : ℝ) : EReal) < len l
  · simp only [if_pos hm]
    refine ⟨?_, c + z * (r - c), by push_cast; rfl⟩
    rw [show (1 : EReal) = ((1 : ℝ) : EReal) from rfl]
    simp only [← EReal.coe_sub, ← EReal.coe_mul, ← EReal.coe_add]
    congr 1
    ring
  · simp only [if_neg hm]
    exact ⟨trivial, r, rfl⟩

/-- The states of all 64 rows after `n` steps, when the steps read the times `p 0, p 1, …`. -/
def runK (w : Fin 128 → Fin 384 → EReal) (b : Fin 384 → EReal) (len : Fin 64 → Fin 128 → EReal)
    (x : ℕ → Fin 64 → Fin 384 → EReal) (p : ℕ → ℕ) : ℕ → Fin 64 → Fin 128 → EReal
  | 0, _, _ => 0
  | n + 1, i, l => stepK w b (p n) (len i) (x (p n) i) (runK w b len x p n i) l

/-- The same with the other form of a step. -/
def runR (w : Fin 128 → Fin 384 → EReal) (b : Fin 384 → EReal) (len : Fin 64 → Fin 128 → EReal)
    (x : ℕ → Fin 64 → Fin 384 → EReal) (p : ℕ → ℕ) : ℕ → Fin 64 → Fin 128 → EReal
  | 0, _, _ => 0
  | n + 1, i, l => stepR w b (p n) (len i) (x (p n) i) (runR w b len x p n i) l

theorem run_eq (w : Fin 128 → Fin 384 → EReal) (b : Fin 384 → EReal) (len : Fin 64 → Fin 128 → EReal)
    (x : ℕ → Fin 64 → Fin 384 → EReal) (p : ℕ → ℕ) (n : ℕ) :
    runK w b len x p n = runR w b len x p n ∧ ∀ i l, ∃ r : ℝ, runK w b len x p n i l = r := by
  induction n with
  | zero => exact ⟨rfl, fun i l => ⟨0, rfl⟩⟩
  | succ n ih =>
    refine ⟨?_, fun i l => (step_eq w b _ _ _ _ l (ih.2 i l)).2⟩
    funext i l
    refine (step_eq w b _ _ _ _ l (ih.2 i l)).1.trans ?_
    rw [ih.1]
    rfl

/-- One step more. -/
theorem runK_succ (w : Fin 128 → Fin 384 → EReal) (b : Fin 384 → EReal) (len : Fin 64 → Fin 128 → EReal)
    (x : ℕ → Fin 64 → Fin 384 → EReal) (p : ℕ → ℕ) (n : ℕ) (i : Fin 64) (l : Fin 128) :
    runK w b len x p (n + 1) i l = stepK w b (p n) (len i) (x (p n) i) (runK w b len x p n i) l := rfl

theorem runR_succ (w : Fin 128 → Fin 384 → EReal) (b : Fin 384 → EReal) (len : Fin 64 → Fin 128 → EReal)
    (x : ℕ → Fin 64 → Fin 384 → EReal) (p : ℕ → ℕ) (n : ℕ) (i : Fin 64) (l : Fin 128) :
    runR w b len x p (n + 1) i l = stepR w b (p n) (len i) (x (p n) i) (runR w b len x p n i) l := rfl

/-- The input's part of the gates at time `s`: row `s % 32` of chunk `s / 32`, times the input weights, plus
    the bias. -/
def proj {I : ℕ} (x : Fin 8 → Fin 32 → Fin 64 → Fin I → EReal) (w : Fin I → Fin 384 → EReal) (b : Fin 384 → EReal)
    (s : ℕ) (i : Fin 64) (g : Fin 384) : EReal :=
  ∑ q, x (Fin.ofNat 8 (s / 32)) (Fin.ofNat 32 s) i q * w q g + b g

/-- Time `t` of chunk `c`. -/
theorem proj_chunk {I : ℕ} (x : Fin 8 → Fin 32 → Fin 64 → Fin I → EReal) (w : Fin I → Fin 384 → EReal)
    (b : Fin 384 → EReal) (c : Fin 8) (t : Fin 32) (i : Fin 64) (g : Fin 384) :
    proj x w b (32 * c.val + t.val) i g = ∑ q, x c t i q * w q g + b g := by
  have hc : Fin.ofNat 8 ((32 * c.val + t.val) / 32) = c := Fin.ext (by simp [Fin.ofNat]; omega)
  have ht : Fin.ofNat 32 (32 * c.val + t.val) = t := Fin.ext (by simp [Fin.ofNat])
  unfold proj
  rw [hc, ht]

/-- The states of one direction `d` of a layer over its arguments, the steps reading the times `p 0, p 1, …`. -/
def states {I : ℕ} (x : (⟨4, ![8, 32, 64, I]⟩ : Shape).Idx → EReal) (wih : (⟨3, ![2, I, 384]⟩ : Shape).Idx → EReal)
    (whh : (⟨3, ![2, 128, 384]⟩ : Shape).Idx → EReal) (bih bhh : (⟨3, ![2, 1, 384]⟩ : Shape).Idx → EReal)
    (len : (⟨2, ![64, 128]⟩ : Shape).Idx → EReal) (d : Fin 2) (p : ℕ → ℕ) : ℕ → Fin 64 → Fin 128 → EReal :=
  runK (fun q g => whh (ix3 d q g)) (fun g => bhh (ix3 d 0 g)) (fun i l => len (ix2 i l))
    (proj (fun n t i q => x (ix4 n t i q)) (fun q g => wih (ix3 d q g)) (fun g => bih (ix3 d 0 g))) p

/-- The same in the other form of a step. -/
def statesR {I : ℕ} (x : (⟨4, ![8, 32, 64, I]⟩ : Shape).Idx → EReal) (wih : (⟨3, ![2, I, 384]⟩ : Shape).Idx → EReal)
    (whh : (⟨3, ![2, 128, 384]⟩ : Shape).Idx → EReal) (bih bhh : (⟨3, ![2, 1, 384]⟩ : Shape).Idx → EReal)
    (len : (⟨2, ![64, 128]⟩ : Shape).Idx → EReal) (d : Fin 2) (p : ℕ → ℕ) : ℕ → Fin 64 → Fin 128 → EReal :=
  runR (fun q g => whh (ix3 d q g)) (fun g => bhh (ix3 d 0 g)) (fun i l => len (ix2 i l))
    (proj (fun n t i q => x (ix4 n t i q)) (fun q g => wih (ix3 d q g)) (fun g => bih (ix3 d 0 g))) p

/-- The two forms give the same states. -/
theorem states_eq {I : ℕ} (x : (⟨4, ![8, 32, 64, I]⟩ : Shape).Idx → EReal) (wih : (⟨3, ![2, I, 384]⟩ : Shape).Idx → EReal)
    (whh : (⟨3, ![2, 128, 384]⟩ : Shape).Idx → EReal) (bih bhh : (⟨3, ![2, 1, 384]⟩ : Shape).Idx → EReal)
    (len : (⟨2, ![64, 128]⟩ : Shape).Idx → EReal) (d : Fin 2) (p : ℕ → ℕ) (n : ℕ) :
    states x wih whh bih bhh len d p n = statesR x wih whh bih bhh len d p n :=
  (run_eq _ _ _ _ _ n).1

/-- The time that a backward step reads. -/
def back (n : ℕ) : ℕ := 255 - n

end Cert.Gru
-- ==== Proof.StepA.lean ====
/- The body's steps and input terms at a place, on extended reals, and the input blocks at a place of the
   arrays that they are cut from. -/
module

public import proofs.«01_k».proof.Proof.FrameA
public import proofs.«01_k».proof.Proof.Gru
public import Idealize.ShloMosaic.Lib.Pointwise
public import Idealize.ShloMosaic.Lib.Pipeline.ValueKit

@[expose] public section
noncomputable section
namespace Cert.KernelIdeal.Layer
open Idealize.ShloMosaic Idealize.ShloMosaic.TcCoe Cert.KernelIdeal Cert.KernelIdeal.Gen

theorem trip_lt (k : Fin k0_t1_loop.trips) : k.val < 32 := lt_of_lt_of_eq k.isLt trips_eq

theorem stepF_apply (len : Vec Ideal S64x128 .f32) (t0 : BitVec 32) (k : Fin k0_t1_loop.trips) (xr : Vec Ideal S32x64x384 .f32)
    (h : Vec Ideal S64x128 .f32) (w : Vec Ideal S2x128x384 .bf16) (b : Vec Ideal S2x1x384 .f32) (i : Fin 64) (l : Fin 128) :
    stepF len t0 w b xr k h (ix2 i l) = Gru.stepK (fun x g => w (ix3 0 x g)) (fun g => b (ix3 0 0 g))
      (Scalar.addi t0 (Scf.iv 0#32 1#32 k.val)).toInt
      (fun l => len (ix2 i l)) (fun g => xr (ix3 ⟨k.val, trip_lt k⟩ i g)) (fun l => h (ix2 i l)) l := by
  have e0 : k0_off1 k 0 = k.val := by rw [off1_eq]; rfl
  have e1 : k0_off1 k 1 = 0 := by rw [off1_eq]; rfl
  have e2 : k0_off1 k 2 = 0 := by rw [off1_eq]; rfl
  unfold stepF k0_pay3
  pointwise
  simp only [e0, e1, e2, Nat.zero_add]
  rfl

theorem stepB_apply (len : Vec Ideal S64x128 .f32) (t0 : BitVec 32) (k : Fin k0_t1_loop.trips) (xr : Vec Ideal S32x64x384 .f32)
    (h : Vec Ideal S64x128 .f32) (w : Vec Ideal S2x128x384 .bf16) (b : Vec Ideal S2x1x384 .f32) (i : Fin 64) (l : Fin 128) :
    stepB len t0 w b xr k h (ix2 i l) = Gru.stepK (fun x g => w (ix3 1 x g)) (fun g => b (ix3 1 0 g))
      (Scalar.addi t0 (Scalar.subi 31#32 (Scf.iv 0#32 1#32 k.val))).toInt
      (fun l => len (ix2 i l)) (fun g => xr (ix3 ⟨31 - k.val, by omega⟩ i g)) (fun l => h (ix2 i l)) l := by
  have e0 : k0_off3 k 0 = 31 - k.val := by rw [off3_eq]; rfl
  have e1 : k0_off3 k 1 = 0 := by rw [off3_eq]; rfl
  have e2 : k0_off3 k 2 = 0 := by rw [off3_eq]; rfl
  unfold stepB k0_pay6
  pointwise
  simp only [e0, e1, e2, Nat.zero_add]
  rfl

theorem xgF_apply (x : Vec Ideal S1x32x64x330 .bf16) (w : Vec Ideal S2x330x384 .bf16) (b : Vec Ideal S2x1x384 .f32)
    (t : Fin 32) (i : Fin 64) (g : Fin 384) :
    xgF x w b (ix3 t i g) = ∑ q : Fin 330, x (ix4 0 t i q) * w (ix3 0 q g) + b (ix3 0 0 g) := by
  unfold xgF k0_pay9
  pointwise

theorem xgB_apply (x : Vec Ideal S1x32x64x330 .bf16) (w : Vec Ideal S2x330x384 .bf16) (b : Vec Ideal S2x1x384 .f32)
    (t : Fin 32) (i : Fin 64) (g : Fin 384) :
    xgB x w b (ix3 t i g) = ∑ q : Fin 330, x (ix4 0 t i q) * w (ix3 1 q g) + b (ix3 1 0 g) := by
  unfold xgB k0_pay10
  pointwise

/-! ## The input blocks at a place -/

variable (m : (ℓ : Loc nD τ sig) → Buf (Elt Ideal) ℓ) (c : Dev nD)

theorem index0 : ∀ (t : Fin cfg0.N) a, win0_0.index t a = ![t.val, 0, 0, 0] a :=
  (by decide +kernel : ∀ (t : Fin grid0.N) a, win0_0.index t a = ![t.val, 0, 0, 0] a)
theorem index1 : ∀ (t : Fin cfg0.N) a, win0_1.index t a = ![7 - t.val, 0, 0, 0] a :=
  (by decide +kernel : ∀ (t : Fin grid0.N) a, win0_1.index t a = ![7 - t.val, 0, 0, 0] a)
theorem index2 : ∀ (t : Fin cfg0.N) a, win0_2.index t a = 0 := (by decide +kernel : ∀ (t : Fin grid0.N) a, win0_2.index t a = 0)
theorem index3 : ∀ (t : Fin cfg0.N) a, win0_3.index t a = 0 := (by decide +kernel : ∀ (t : Fin grid0.N) a, win0_3.index t a = 0)
theorem index4 : ∀ (t : Fin cfg0.N) a, win0_4.index t a = 0 := (by decide +kernel : ∀ (t : Fin grid0.N) a, win0_4.index t a = 0)
theorem index5 : ∀ (t : Fin cfg0.N) a, win0_5.index t a = 0 := (by decide +kernel : ∀ (t : Fin grid0.N) a, win0_5.index t a = 0)
theorem index6 : ∀ (t : Fin cfg0.N) a, win0_6.index t a = 0 := (by decide +kernel : ∀ (t : Fin grid0.N) a, win0_6.index t a = 0)
theorem index7 : ∀ (t : Fin cfg0.N) a, win0_7.index t a = ![t.val, 0, 0, 0] a :=
  (by decide +kernel : ∀ (t : Fin grid0.N) a, win0_7.index t a = ![t.val, 0, 0, 0] a)
theorem index8 : ∀ (t : Fin cfg0.N) a, win0_8.index t a = ![7 - t.val, 0, 0, 0] a :=
  (by decide +kernel : ∀ (t : Fin grid0.N) a, win0_8.index t a = ![7 - t.val, 0, 0, 0] a)

theorem point_lt (t : Fin cfg0.N) : t.val < 8 := lt_of_lt_of_eq t.isLt N_0

theorem block0 (t : Fin cfg0.N) (a : Fin 32) (i : Fin 64) (q : Fin 330) :
    iblk m c 0 t (ix4 0 a i q) = m ((c.tc : Thread nD τ).loc main_arg0) (ix4 ⟨t.val, point_lt t⟩ a i q) := by
  blk_ext [iblk, V, index0]

theorem block1 (t : Fin cfg0.N) (a : Fin 32) (i : Fin 64) (q : Fin 330) :
    iblk m c 1 t (ix4 0 a i q) = m ((c.tc : Thread nD τ).loc main_arg0) (ix4 ⟨7 - t.val, by omega⟩ a i q) := by
  blk_ext [iblk, V, index1]

theorem block2 (t : Fin cfg0.N) (d : Fin 2) (q : Fin 330) (g : Fin 384) :
    iblk m c 2 t (ix3 d q g) = m ((c.tc : Thread nD τ).loc main_arg1) (ix3 d q g) := by
  blk_ext [iblk, V, index2]

theorem block3 (t : Fin cfg0.N) (d : Fin 2) (q : Fin 128) (g : Fin 384) :
    iblk m c 3 t (ix3 d q g) = m ((c.tc : Thread nD τ).loc main_arg2) (ix3 d q g) := by
  blk_ext [iblk, V, index3]

theorem block4 (t : Fin cfg0.N) (d : Fin 2) (q : Fin 1) (g : Fin 384) :
    iblk m c 4 t (ix3 d q g) = m ((c.tc : Thread nD τ).loc main_arg3) (ix3 d q g) := by
  blk_ext [iblk, V, index4]

theorem block5 (t : Fin cfg0.N) (d : Fin 2) (q : Fin 1) (g : Fin 384) :
    iblk m c 5 t (ix3 d q g) = m ((c.tc : Thread nD τ).loc main_arg4) (ix3 d q g) := by
  blk_ext [iblk, V, index5]

theorem block6 (t : Fin cfg0.N) (i : Fin 64) (l : Fin 128) :
    iblk m c 6 t (ix2 i l) = m ((c.tc : Thread nD τ).loc main_arg5) (ix2 i l) := by
  blk_ext [iblk, V, index6]

end Cert.KernelIdeal.Layer
-- ==== Proof.ValueA.lean ====
/- What the layer's two output arrays hold after the run, on extended reals: the states of the recurrence. -/
module

public import proofs.«01_k».proof.Proof.StepA

@[expose] public section

noncomputable section

namespace Cert.KernelIdeal.Layer

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The states of direction `d` over the arguments that device `c` holds. -/
def states (d : Fin 2) (p : ℕ → ℕ) : ℕ → Fin 64 → Fin 128 → EReal :=
  Gru.states (I := 330) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) d p

theorem timeF : ∀ (t : Fin cfg0.N) (k : Fin 32),
    (Scalar.addi (tF (grid0.coords t)) (Scf.iv 0#32 1#32 k.val)).toInt = ((32 * t.val + k.val : ℕ) : ℤ) :=
  (by decide +kernel : ∀ (t : Fin grid0.N) (k : Fin 32),
    (Scalar.addi (tF (grid0.coords t)) (Scf.iv 0#32 1#32 k.val)).toInt = ((32 * t.val + k.val : ℕ) : ℤ))

theorem timeB : ∀ (t : Fin cfg0.N) (k : Fin 32),
    (Scalar.addi (tB (grid0.coords t)) (Scalar.subi 31#32 (Scf.iv 0#32 1#32 k.val))).toInt
      = ((Gru.back (32 * t.val + k.val) : ℕ) : ℤ) :=
  (by decide +kernel : ∀ (t : Fin grid0.N) (k : Fin 32),
    (Scalar.addi (tB (grid0.coords t)) (Scalar.subi 31#32 (Scf.iv 0#32 1#32 k.val))).toInt
      = ((Gru.back (32 * t.val + k.val) : ℕ) : ℤ))

/-- Inside a block the forward states go on from the state before it. -/
theorem hF_apply (t : Fin cfg0.N) (h : Vec Ideal S64x128 .f32)
    (hh : ∀ i l, h (ix2 i l) = states m c 0 id (32 * t.val) i l) (k : ℕ) (hk : k ≤ 32) (i : Fin 64) (l : Fin 128) :
    hF (grid0.coords t) (iblk m c 0 t) (iblk m c 2 t) (iblk m c 3 t) (iblk m c 4 t) (iblk m c 5 t) (iblk m c 6 t) h k (ix2 i l)
      = states m c 0 id (32 * t.val + k) i l := by
  induction k generalizing i l with
  | zero => exact hh i l
  | succ k ih =>
    have hk' : k < k0_t1_loop.trips := by rw [trips_eq]; omega
    unfold hF at ih ⊢
    refine (congrFun (after_succ _ _ ⟨k, hk'⟩) _).trans ?_
    rw [stepF_apply, show 32 * t.val + (k + 1) = 32 * t.val + k + 1 from rfl]
    unfold states Gru.states
    rw [Gru.runK_succ, id]
    congr 1
    · funext q g; exact block3 m c t 0 q g
    · funext g; exact block5 m c t 0 0 g
    · exact timeF t ⟨k, by omega⟩
    · funext l; exact block6 m c t i l
    · funext g
      refine (xgF_apply _ _ _ _ _ _).trans ?_
      refine Eq.trans ?_ (Gru.proj_chunk _ _ _ ⟨t.val, point_lt t⟩ ⟨k, by omega⟩ i g).symm
      rw [block4]
      congr 1
      refine Finset.sum_congr rfl fun q _ => ?_
      rw [block0, block2]
    · funext l; exact ih (by omega) i l

/-- Inside a block the backward states go on from the state before it. -/
theorem hB_apply (t : Fin cfg0.N) (h : Vec Ideal S64x128 .f32)
    (hh : ∀ i l, h (ix2 i l) = states m c 1 Gru.back (32 * t.val) i l) (k : ℕ) (hk : k ≤ 32) (i : Fin 64) (l : Fin 128) :
    hB (grid0.coords t) (iblk m c 1 t) (iblk m c 2 t) (iblk m c 3 t) (iblk m c 4 t) (iblk m c 5 t) (iblk m c 6 t) h k (ix2 i l)
      = states m c 1 Gru.back (32 * t.val + k) i l := by
  induction k generalizing i l with
  | zero => exact hh i l
  | succ k ih =>
    have hk' : k < k0_t1_loop.trips := by rw [trips_eq]; omega
    have ht := point_lt t
    unfold hB at ih ⊢
    refine (congrFun (after_succ _ _ ⟨k, hk'⟩) _).trans ?_
    rw [stepB_apply, show 32 * t.val + (k + 1) = 32 * t.val + k + 1 from rfl]
    unfold states Gru.states
    rw [Gru.runK_succ]
    congr 1
    · funext q g; exact block3 m c t 1 q g
    · funext g; exact block5 m c t 1 0 g
    · exact timeB t ⟨k, by omega⟩
    · funext l; exact block6 m c t i l
    · funext g
      refine (xgB_apply _ _ _ _ _ _).trans ?_
      rw [show Gru.back (32 * t.val + k) = 32 * (7 - t.val) + (31 - k) by unfold Gru.back; omega]
      refine Eq.trans ?_ (Gru.proj_chunk _ _ _ ⟨7 - t.val, by omega⟩ ⟨31 - k, by omega⟩ i g).symm
      rw [block4]
      congr 1
      refine Finset.sum_congr rfl fun q _ => ?_
      rw [block1, block2]
    · funext l; exact ih (by omega) i l

theorem start_apply (i : Fin 64) (l : Fin 128) :
    k0_pay1 (F := Ideal) (ix2 i l) = 0 ∧ k0_pay2 (F := Ideal) (ix2 i l) = 0 := by
  unfold k0_pay1 k0_pay2
  constructor <;> pointwise

/-- The carried states before point `n` are those after `32 n` steps. -/
theorem carry_apply (n : ℕ) (hn : n ≤ cfg0.N) (i : Fin 64) (l : Fin 128) :
    (carry m c n hn).1 (ix2 i l) = states m c 0 id (32 * n) i l
      ∧ (carry m c n hn).2 (ix2 i l) = states m c 1 Gru.back (32 * n) i l := by
  induction n generalizing i l with
  | zero => exact ⟨(start_apply i l).1, (start_apply i l).2⟩
  | succ n ih =>
    have h := carry_succ m c ⟨n, hn⟩
    refine ⟨(congrFun (congrArg Prod.fst h) _).trans ?_, (congrFun (congrArg Prod.snd h) _).trans ?_⟩
    · exact hF_apply m c ⟨n, hn⟩ _ (fun i l => (ih (Nat.le_of_succ_le hn) i l).1) 32 le_rfl i l
    · exact hB_apply m c ⟨n, hn⟩ _ (fun i l => (ih (Nat.le_of_succ_le hn) i l).2) 32 le_rfl i l

/-- The forward output array: place `(n, t)` is the state after the step at time `32 n + t`; -/
def arrF : Vec Ideal S8x32x64x128 .f32 := fun j => states m c 0 id (32 * (j 0).val + (j 1).val + 1) (j 2) (j 3)

/-- the backward one: the state after the steps from time 255 down to `32 n + t`. -/
def arrB : Vec Ideal S8x32x64x128 .f32 := fun j => states m c 1 Gru.back (256 - (32 * (j 0).val + (j 1).val)) (j 2) (j 3)

theorem states_congr (d : Fin 2) (p : ℕ → ℕ) {n n' : ℕ} {i i' : Fin 64} {l l' : Fin 128} (hn : n = n') (hi : i = i')
    (hl : l = l') : states m c d p n i l = states m c d p n' i' l' := by subst hn hi hl; rfl

theorem arrF_eq : (dats m 0 c).arrAt 7 cfg0.N = arrF m c := by
  refine (dats m 0 c).arrAt_eq_of_covers 7 _ (by decide +kernel) fun t hf y => ?_
  have ht := point_lt t
  blk_simp
  rw [after0_7]
  have e := hF_apply m c t _ (fun i l => (carry_apply m c t.val (Nat.le_of_lt t.isLt) i l).1) ((y 1).val + 1) (by have : (y 1).val < 32 := (y 1).isLt; omega) (y 2) (y 3)
  refine e.trans ?_
  have e0 : (((win0_7.blk t).view.emb y) 0 : ℕ) = t.val := by
    have h0 : (y 0 : ℕ) < 1 := (y 0).isLt
    blk_simp [index7]
  have e1 : (((win0_7.blk t).view.emb y) 1 : ℕ) = y 1 := by blk_simp [index7]
  have h1 : (y 1 : ℕ) < 32 := (y 1).isLt
  refine states_congr m c _ _ ?_ (Fin.ext ?_) (Fin.ext ?_)
  · rw [e0, e1]; omega
  · blk_simp [index7]
  · blk_simp [index7]

theorem arrB_eq : (dats m 0 c).arrAt 8 cfg0.N = arrB m c := by
  refine (dats m 0 c).arrAt_eq_of_covers 8 _ (by decide +kernel) fun t hf y => ?_
  have ht := point_lt t
  blk_simp
  rw [after0_8]
  have e := hB_apply m c t _ (fun i l => (carry_apply m c t.val (Nat.le_of_lt t.isLt) i l).2) (31 - (y 1).val + 1) (by omega) (y 2) (y 3)
  refine e.trans ?_
  have e0 : (((win0_8.blk t).view.emb y) 0 : ℕ) = 7 - t.val := by
    have h0 : (y 0 : ℕ) < 1 := (y 0).isLt
    blk_simp [index8]
  have e1 : (((win0_8.blk t).view.emb y) 1 : ℕ) = y 1 := by blk_simp [index8]
  have h1 : (y 1 : ℕ) < 32 := (y 1).isLt
  refine states_congr m c _ _ ?_ (Fin.ext ?_) (Fin.ext ?_)
  · rw [e0, e1]; omega
  · blk_simp [index8]
  · blk_simp [index8]

end Cert.KernelIdeal.Layer
-- ==== Proof.RefA.lean ====
/- What the reference's loop leaves on extended reals: the states of the recurrence, in its own form of a step. -/
module

public import proofs.«01_k».proof.Proof.Gen.ReferenceIdeal.Run
public import proofs.«01_k».proof.Proof.Gru
public import Idealize.ShloMosaic.Lib.Pointwise
public import Idealize.ShloMosaic.Lib.StableHlo.ReadAt

@[expose] public section

noncomputable section

namespace Cert.ReferenceIdeal.Layer

open Idealize.ShloMosaic Idealize.ShloMosaic.TcCoe Cert.ReferenceIdeal Cert.ReferenceIdeal.Gen Cert.ReferenceIdeal.Value
open Idealize.ShloMosaic.StableHlo

/-! ## Rows of an array by a computed index -/

/-- A slice of one row, cut out at a computed index `k` inside the array, is row `k`. -/
theorem slice_row {α : Type} {n a b : ℕ} (x : (⟨3, ![n, a, b]⟩ : Shape).Idx → α) (start : Fin 3 → ℤ) (k : Fin n)
    (h0 : start 0 = (k.val : ℤ)) (h1 : start 1 = 0) (h2 : start 2 = 0)
    (h : (⟨3, ![n, a, b]⟩ : Shape).Slices (fun _ => 0) ⟨3, ![1, a, b]⟩) (i : Fin a) (j : Fin b) :
    Host.dynamicSlice (s := ⟨3, ![n, a, b]⟩) ⟨3, ![1, a, b]⟩ x start h (ix3 0 i j) = x (ix3 k i j) := by
  have hk := k.isLt
  rw [Host.dynamicSlice_apply]
  have e0 := Host.clampedStart_of_le h.1 start 0 k.val h0 (by change k.val + 1 ≤ n; omega)
  have e1 := Host.clampedStart_of_le h.1 start 1 0 h1 (by change 0 + a ≤ a; omega)
  have e2 := Host.clampedStart_of_le h.1 start 2 0 h2 (by change 0 + b ≤ b; omega)
  congr 1
  funext d
  rw [Shape.Idx.norm_def]
  fin_cases d <;> apply Fin.ext
  · exact (congrArg (· + 0) e0)
  · exact (congrArg (· + i.val) e1).trans (Nat.zero_add _)
  · exact (congrArg (· + j.val) e2).trans (Nat.zero_add _)

/-- Writing one row at a computed index `k` inside the array replaces row `k` alone. -/
theorem update_row {α : Type} {n a b : ℕ} (x : (⟨3, ![n, a, b]⟩ : Shape).Idx → α)
    (u : (⟨3, ![1, a, b]⟩ : Shape).Idx → α) (start : Fin 3 → ℤ) (k : Fin n)
    (h0 : start 0 = (k.val : ℤ)) (h1 : start 1 = 0) (h2 : start 2 = 0)
    (h : (⟨3, ![n, a, b]⟩ : Shape).Slices (fun _ => 0) ⟨3, ![1, a, b]⟩) (r : Fin n) (i : Fin a) (j : Fin b) :
    Host.dynamicUpdateSlice x u start h (ix3 r i j) = if r = k then u (ix3 0 i j) else x (ix3 r i j) := by
  have hk := k.isLt
  rw [Host.dynamicUpdateSlice_apply]
  have e0 := Host.clampedStart_of_le h.1 start 0 k.val h0 (by change k.val + 1 ≤ n; omega)
  have e1 := Host.clampedStart_of_le h.1 start 1 0 h1 (by change 0 + a ≤ a; omega)
  have e2 := Host.clampedStart_of_le h.1 start 2 0 h2 (by change 0 + b ≤ b; omega)
  by_cases hr : r = k
  · subst hr
    rw [if_pos rfl, dif_pos]
    · congr 1
      funext d
      rw [Shape.Idx.norm_def]
      fin_cases d <;> apply Fin.ext
      · exact (congrArg (r.val - ·) e0).trans (Nat.sub_self _)
      · exact congrArg (i.val - ·) e1
      · exact congrArg (j.val - ·) e2
    · intro d
      fin_cases d
      · exact ⟨le_of_eq e0, lt_of_lt_of_eq (Nat.lt_succ_self _) (congrArg (· + 1) e0).symm⟩
      · exact ⟨(le_of_eq e1).trans (Nat.zero_le _), lt_of_lt_of_eq i.isLt ((congrArg (· + a) e1).trans (Nat.zero_add _)).symm⟩
      · exact ⟨(le_of_eq e2).trans (Nat.zero_le _), lt_of_lt_of_eq j.isLt ((congrArg (· + b) e2).trans (Nat.zero_add _)).symm⟩
  · rw [if_neg hr, dif_neg]
    intro hin
    have h3 : _ ≤ r.val ∧ r.val < _ + 1 := hin 0
    rw [e0] at h3
    exact hr (Fin.ext (by omega))

theorem select_at {s : Shape} {α : Type} {c : IVec s 1} {x y : s.Idx → α} {j : s.Idx} {c' : BitVec 1} {x' y' : α}
    (hc : c j = c') (hx : x j = x') (hy : y j = y') : select c x y j = Scalar.select c' x' y' := by
  subst hc hx hy; rfl

/-! ## One trip at a place -/

variable (V : Valuation τ sig (Elt Ideal)) (k : Fin 256)
  (hV : V (Proc.devRef .tc main_v32_6) = fun _ => BitVec.ofNat 32 k.val)

theorem toInt_ofNat : ∀ k : Fin 256, (BitVec.ofNat 32 k.val).toInt = (k.val : ℤ) := by decide +kernel

include hV in
theorem counter : BitVec.toInt (V (Proc.devRef .tc main_v32_6) (Shape.Idx.first h_S_)) = (k.val : ℤ) := by
  rw [hV]; exact toInt_ofNat k

include hV in
theorem xF (i : Fin 64) (g : Fin 384) :
    (res_main_while0b_v36 V (ix2 i g) : EReal) = V (Proc.devRef .tc main_v32_0) (ix3 k i g) := by
  unfold res_main_while0b_v36
  have e : ∀ X : Vec Ideal S1x64x384 .f32, shapeCast S64x384 X shapeCasts_S1x64x384_S64x384 (ix2 i g) = X (ix3 0 i g) := fun X => by pointwise
  exact (e _).trans (slice_row _ _ k (counter V k hV) rfl rfl _ i g)

include hV in
theorem xB (i : Fin 64) (g : Fin 384) :
    (res_main_while0b_v38 V (ix2 i g) : EReal) = V (Proc.devRef .tc main_v32_2) (ix3 k i g) := by
  unfold res_main_while0b_v38
  have e : ∀ X : Vec Ideal S1x64x384 .f32, shapeCast S64x384 X shapeCasts_S1x64x384_S64x384 (ix2 i g) = X (ix3 0 i g) := fun X => by pointwise
  exact (e _).trans (slice_row _ _ k (counter V k hV) rfl rfl _ i g)

/-- The recurrent part of the forward gates; -/
theorem gateF (i : Fin 64) (g : Fin 384) :
    (res_main_while0b_v46 V (ix2 i g) : EReal)
      = Gru.gate (fun q g => V (Proc.devRef .tc main_v32_4) (ix3 0 q g)) (fun g => V (Proc.devRef .tc main_v32_5) (ix3 0 0 g))
          (fun l => V (Proc.devRef .tc main_v32_7) (ix2 i l)) g := by
  unfold res_main_while0b_v46
  pointwise
  rfl

/-- of the backward ones. -/
theorem gateB (i : Fin 64) (g : Fin 384) :
    (res_main_while0b_v82 V (ix2 i g) : EReal)
      = Gru.gate (fun q g => V (Proc.devRef .tc main_v32_4) (ix3 1 q g)) (fun g => V (Proc.devRef .tc main_v32_5) (ix3 1 0 g))
          (fun l => V (Proc.devRef .tc main_v32_8) (ix2 i l)) g := by
  unfold res_main_while0b_v82
  pointwise
  rfl

theorem updateF (i : Fin 64) (l : Fin 128) :
    (res_main_while0b_v66 V (ix2 i l) : EReal)
      = Ideal.logistic (@HAdd.hAdd EReal EReal EReal _ (res_main_while0b_v36 V (ix2 i ⟨128 + l.val, by omega⟩))
          (res_main_while0b_v46 V (ix2 i ⟨128 + l.val, by omega⟩))) := by
  unfold res_main_while0b_v66
  pointwise
  rfl

theorem updateB (i : Fin 64) (l : Fin 128) :
    (res_main_while0b_v102 V (ix2 i l) : EReal)
      = Ideal.logistic (@HAdd.hAdd EReal EReal EReal _ (res_main_while0b_v38 V (ix2 i ⟨128 + l.val, by omega⟩))
          (res_main_while0b_v82 V (ix2 i ⟨128 + l.val, by omega⟩))) := by
  unfold res_main_while0b_v102
  pointwise
  rfl

/-- The mask bit of a place: whether the time `n` lies before the length. -/
def before (n : ℕ) (len : EReal) : BitVec 1 := BitVec.ofBool (decide ((((n : ℤ) : ℝ) : EReal) < len))

theorem select_before (n : ℕ) (len x y : EReal) :
    Scalar.select (before n len) x y = if (((n : ℤ) : ℝ) : EReal) < len then x else y := by
  unfold before Scalar.select
  by_cases h : (((n : ℤ) : ℝ) : EReal) < len
  · rw [if_pos h, decide_eq_true h]; rfl
  · rw [if_neg h, decide_eq_false h]; rfl

include hV in
/-- The new forward state of a trip. -/
theorem newF (n : ℕ) (len : Fin 64 → Fin 128 → EReal)
    (hm : ∀ i l, V (Proc.devRef .tc main_v32_1) (ix3 k i l) = before n (len i l)) (i : Fin 64) (l : Fin 128) :
    (res_main_while0b_v75 V (ix2 i l) : EReal)
      = Gru.stepR (fun q g => V (Proc.devRef .tc main_v32_4) (ix3 0 q g)) (fun g => V (Proc.devRef .tc main_v32_5) (ix3 0 0 g)) n
          (len i) (fun g => V (Proc.devRef .tc main_v32_0) (ix3 k i g)) (fun l => V (Proc.devRef .tc main_v32_7) (ix2 i l)) l := by
  unfold res_main_while0b_v75
  have e : ∀ X : IVec S1x64x128 1, shapeCast S64x128 X shapeCasts_S1x64x128_S64x128 (ix2 i l) = X (ix3 0 i l) := fun X => by pointwise
  refine (select_at (x' := (1 - Gru.update (fun q g => V (Proc.devRef .tc main_v32_4) (ix3 0 q g)) (fun g => V (Proc.devRef .tc main_v32_5) (ix3 0 0 g)) (fun g => V (Proc.devRef .tc main_v32_0) (ix3 k i g)) (fun l => V (Proc.devRef .tc main_v32_7) (ix2 i l)) l)
      * Gru.candidate (fun q g => V (Proc.devRef .tc main_v32_4) (ix3 0 q g)) (fun g => V (Proc.devRef .tc main_v32_5) (ix3 0 0 g)) (fun g => V (Proc.devRef .tc main_v32_0) (ix3 k i g)) (fun l => V (Proc.devRef .tc main_v32_7) (ix2 i l)) l
      + Gru.update (fun q g => V (Proc.devRef .tc main_v32_4) (ix3 0 q g)) (fun g => V (Proc.devRef .tc main_v32_5) (ix3 0 0 g)) (fun g => V (Proc.devRef .tc main_v32_0) (ix3 k i g)) (fun l => V (Proc.devRef .tc main_v32_7) (ix2 i l)) l * V (Proc.devRef .tc main_v32_7) (ix2 i l))
    ((e _).trans ((slice_row _ _ k (counter V k hV) rfl rfl _ i l).trans (hm i l))) ?_ rfl).trans (select_before _ _ _ _)
  pointwise
  rw [updateF, xF V k hV, xF V k hV, xF V k hV, gateF, gateF, gateF]
  rfl

include hV in
/-- The new backward state of a trip. -/
theorem newB (n : ℕ) (len : Fin 64 → Fin 128 → EReal)
    (hm : ∀ i l, V (Proc.devRef .tc main_v32_3) (ix3 k i l) = before n (len i l)) (i : Fin 64) (l : Fin 128) :
    (res_main_while0b_v111 V (ix2 i l) : EReal)
      = Gru.stepR (fun q g => V (Proc.devRef .tc main_v32_4) (ix3 1 q g)) (fun g => V (Proc.devRef .tc main_v32_5) (ix3 1 0 g)) n
          (len i) (fun g => V (Proc.devRef .tc main_v32_2) (ix3 k i g)) (fun l => V (Proc.devRef .tc main_v32_8) (ix2 i l)) l := by
  unfold res_main_while0b_v111
  have e : ∀ X : IVec S1x64x128 1, shapeCast S64x128 X shapeCasts_S1x64x128_S64x128 (ix2 i l) = X (ix3 0 i l) := fun X => by pointwise
  refine (select_at (x' := (1 - Gru.update (fun q g => V (Proc.devRef .tc main_v32_4) (ix3 1 q g)) (fun g => V (Proc.devRef .tc main_v32_5) (ix3 1 0 g)) (fun g => V (Proc.devRef .tc main_v32_2) (ix3 k i g)) (fun l => V (Proc.devRef .tc main_v32_8) (ix2 i l)) l)
      * Gru.candidate (fun q g => V (Proc.devRef .tc main_v32_4) (ix3 1 q g)) (fun g => V (Proc.devRef .tc main_v32_5) (ix3 1 0 g)) (fun g => V (Proc.devRef .tc main_v32_2) (ix3 k i g)) (fun l => V (Proc.devRef .tc main_v32_8) (ix2 i l)) l
      + Gru.update (fun q g => V (Proc.devRef .tc main_v32_4) (ix3 1 q g)) (fun g => V (Proc.devRef .tc main_v32_5) (ix3 1 0 g)) (fun g => V (Proc.devRef .tc main_v32_2) (ix3 k i g)) (fun l => V (Proc.devRef .tc main_v32_8) (ix2 i l)) l * V (Proc.devRef .tc main_v32_8) (ix2 i l))
    ((e _).trans ((slice_row _ _ k (counter V k hV) rfl rfl _ i l).trans (hm i l))) ?_ rfl).trans (select_before _ _ _ _)
  pointwise
  rw [updateB, xB V k hV, xB V k hV, xB V k hV, gateB, gateB, gateB]
  rfl

include hV in
/-- A trip writes its new forward state to row `k` of the forward results; -/
theorem rowF (r : Fin 256) (i : Fin 64) (l : Fin 128) :
    (step_main_v32_9 V (ix3 r i l) : EReal)
      = if r = k then (res_main_while0b_v75 V (ix2 i l) : EReal) else V (Proc.devRef .tc main_v32_9) (ix3 r i l) := by
  unfold step_main_v32_9
  dsimp only [id]
  refine (update_row _ _ _ k (counter V k hV) rfl rfl _ r i l).trans ?_
  congr 1
  pointwise

include hV in
/-- and its new backward state to row `k` of the backward ones. -/
theorem rowB (r : Fin 256) (i : Fin 64) (l : Fin 128) :
    (step_main_v32_10 V (ix3 r i l) : EReal)
      = if r = k then (res_main_while0b_v111 V (ix2 i l) : EReal) else V (Proc.devRef .tc main_v32_10) (ix3 r i l) := by
  unfold step_main_v32_10
  dsimp only [id]
  refine (update_row _ _ _ k (counter V k hV) rfl rfl _ r i l).trans ?_
  congr 1
  pointwise

/-! ## The loop's entry -/

variable (m : (ℓ : Loc nD τ sig) → Buf (Elt Ideal) ℓ) (c : Dev nD)

/-- The states of direction `d` over the arguments that device `c` holds. -/
def states (d : Fin 2) (p : ℕ → ℕ) : ℕ → Fin 64 → Fin 128 → EReal :=
  Gru.statesR (I := 330) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) d p

/-- The input's part of the gates. -/
def inputs (d : Fin 2) : ℕ → Fin 64 → Fin 384 → EReal :=
  Gru.proj (I := 330) (fun n t i q => m ((c.tc : Thread nD τ).loc main_arg0) (ix4 n t i q))
    (fun q g => m ((c.tc : Thread nD τ).loc main_arg1) (ix3 d q g)) (fun g => m ((c.tc : Thread nD τ).loc main_arg3) (ix3 d 0 g))

/-- The lengths. -/
def lens (i : Fin 64) (l : Fin 128) : EReal := m ((c.tc : Thread nD τ).loc main_arg5) (ix2 i l)

theorem chunk_of (s : ℕ) (hs : s < 256) : (⟨s / 32, by omega⟩ : Fin 8) = Fin.ofNat 8 (s / 32) :=
  Fin.ext (by simp [Fin.ofNat]; omega)
theorem row_of (s : ℕ) : (⟨s % 32, by omega⟩ : Fin 32) = Fin.ofNat 32 s := Fin.ext (by simp [Fin.ofNat])

theorem entry0 (s : Fin 256) (i : Fin 64) (g : Fin 384) :
    (entryContents preI m c (Proc.devRef .tc main_v32_0) (ix3 s i g) : EReal) = inputs m c 0 s.val i g := by
  simp only [entryContents, afterL_cons, afterL_nil]
  after_reads_simp
  dsimp only [id]
  pointwise
  unfold inputs Gru.proj
  rw [← chunk_of s.val s.isLt, ← row_of s.val]

theorem entry2 (s : Fin 256) (i : Fin 64) (g : Fin 384) :
    (entryContents preI m c (Proc.devRef .tc main_v32_2) (ix3 s i g) : EReal) = inputs m c 1 (Gru.back s.val) i g := by
  have hr : (s.rev : ℕ) = Gru.back s.val := by unfold Gru.back; rw [Fin.val_rev]; omega
  simp only [entryContents, afterL_cons, afterL_nil]
  after_reads_simp
  dsimp only [id]
  pointwise
  unfold inputs Gru.proj
  rw [← hr, ← chunk_of s.rev.val s.rev.isLt, ← row_of s.rev.val]
  rfl

theorem entry1 (s : Fin 256) (i : Fin 64) (l : Fin 128) :
    entryContents preI m c (Proc.devRef .tc main_v32_1) (ix3 s i l) = before s.val (lens m c i l) := by
  simp only [entryContents, afterL_cons, afterL_nil]
  after_reads_simp
  dsimp only [id]
  pointwise
  unfold before lens
  rw [← toInt_ofNat s]
  rfl

theorem entry3 (s : Fin 256) (i : Fin 64) (l : Fin 128) :
    entryContents preI m c (Proc.devRef .tc main_v32_3) (ix3 s i l) = before (Gru.back s.val) (lens m c i l) := by
  have hr : (s.rev : ℕ) = Gru.back s.val := by unfold Gru.back; rw [Fin.val_rev]; omega
  simp only [entryContents, afterL_cons, afterL_nil]
  after_reads_simp
  dsimp only [id]
  pointwise
  unfold before lens
  rw [← hr, ← toInt_ofNat s.rev]
  rfl

theorem entry4 (d : Fin 2) (q : Fin 128) (g : Fin 384) :
    (entryContents preI m c (Proc.devRef .tc main_v32_4) (ix3 d q g) : EReal) = m ((c.tc : Thread nD τ).loc main_arg2) (ix3 d q g) := by
  simp only [entryContents, afterL_cons, afterL_nil]
  after_reads_simp
  rfl

theorem entry5 (d : Fin 2) (g : Fin 384) :
    (entryContents preI m c (Proc.devRef .tc main_v32_5) (ix3 d 0 g) : EReal) = m ((c.tc : Thread nD τ).loc main_arg4) (ix3 d 0 g) := by
  simp only [entryContents, afterL_cons, afterL_nil]
  after_reads_simp
  rfl

theorem entry7 (i : Fin 64) (l : Fin 128) :
    (entryContents preI m c (Proc.devRef .tc main_v32_7) (ix2 i l) : EReal) = (0 : EReal) := by
  simp only [entryContents, afterL_cons, afterL_nil]
  after_reads_simp
  dsimp only [id]
  pointwise

theorem entry8 (i : Fin 64) (l : Fin 128) :
    (entryContents preI m c (Proc.devRef .tc main_v32_8) (ix2 i l) : EReal) = (0 : EReal) := by
  simp only [entryContents, afterL_cons, afterL_nil]
  after_reads_simp
  dsimp only [id]
  pointwise

/-! ## The loop -/

/-- What the carried buffers hold after `n` trips from the entry `E`. -/
structure Inv (E V : Valuation τ sig (Elt Ideal)) (n : ℕ) : Prop where
  k0 : V (Proc.devRef .tc main_v32_0) = E (Proc.devRef .tc main_v32_0)
  k1 : V (Proc.devRef .tc main_v32_1) = E (Proc.devRef .tc main_v32_1)
  k2 : V (Proc.devRef .tc main_v32_2) = E (Proc.devRef .tc main_v32_2)
  k3 : V (Proc.devRef .tc main_v32_3) = E (Proc.devRef .tc main_v32_3)
  k4 : V (Proc.devRef .tc main_v32_4) = E (Proc.devRef .tc main_v32_4)
  k5 : V (Proc.devRef .tc main_v32_5) = E (Proc.devRef .tc main_v32_5)
  count : V (Proc.devRef .tc main_v32_6) = fun _ => BitVec.ofNat 32 n
  stateF : ∀ i l, (V (Proc.devRef .tc main_v32_7) (ix2 i l) : EReal) = states m c 0 id n i l
  stateB : ∀ i l, (V (Proc.devRef .tc main_v32_8) (ix2 i l) : EReal) = states m c 1 Gru.back n i l
  outF : ∀ (s : Fin 256) i l, s.val < n → (V (Proc.devRef .tc main_v32_9) (ix3 s i l) : EReal) = states m c 0 id (s.val + 1) i l
  outB : ∀ (s : Fin 256) i l, s.val < n →
    (V (Proc.devRef .tc main_v32_10) (ix3 s i l) : EReal) = states m c 1 Gru.back (s.val + 1) i l

theorem inv_entry : Inv m c (entryContents preI m c) (entryContents preI m c) 0 where
  k0 := rfl
  k1 := rfl
  k2 := rfl
  k3 := rfl
  k4 := rfl
  k5 := rfl
  count := ctr_entry m c
  stateF i l := entry7 m c i l
  stateB i l := entry8 m c i l
  outF s i l h := absurd h (Nat.not_lt_zero _)
  outB s i l h := absurd h (Nat.not_lt_zero _)

theorem inv_step (V : Valuation τ sig (Elt Ideal)) (n : ℕ) (hn : n < 256) (h : Inv m c (entryContents preI m c) V n) :
    Inv m c (entryContents preI m c) (STEP V) (n + 1) := by
  have hF : ∀ i l, (res_main_while0b_v75 V (ix2 i l) : EReal) = states m c 0 id (n + 1) i l := fun i l => by
    refine (newF V ⟨n, hn⟩ h.count n (lens m c) (fun i l => ?_) i l).trans ?_
    · rw [h.k1]; exact entry1 m c ⟨n, hn⟩ i l
    · unfold states Gru.statesR
      rw [Gru.runR_succ]
      congr 1
      · funext q g; rw [h.k4]; exact entry4 m c 0 q g
      · funext g; rw [h.k5]; exact entry5 m c 0 g
      · funext g; rw [h.k0]; exact entry0 m c ⟨n, hn⟩ i g
      · funext l; exact h.stateF i l
  have hB : ∀ i l, (res_main_while0b_v111 V (ix2 i l) : EReal) = states m c 1 Gru.back (n + 1) i l := fun i l => by
    refine (newB V ⟨n, hn⟩ h.count (Gru.back n) (lens m c) (fun i l => ?_) i l).trans ?_
    · rw [h.k3]; exact entry3 m c ⟨n, hn⟩ i l
    · unfold states Gru.statesR
      rw [Gru.runR_succ]
      congr 1
      · funext q g; rw [h.k4]; exact entry4 m c 1 q g
      · funext g; rw [h.k5]; exact entry5 m c 1 g
      · funext g; rw [h.k2]; exact entry2 m c ⟨n, hn⟩ i g
      · funext l; exact h.stateB i l
  exact {
    k0 := (STEP_main_v32_0 V).trans h.k0
    k1 := (STEP_main_v32_1 V).trans h.k1
    k2 := (STEP_main_v32_2 V).trans h.k2
    k3 := (STEP_main_v32_3 V).trans h.k3
    k4 := (STEP_main_v32_4 V).trans h.k4
    k5 := (STEP_main_v32_5 V).trans h.k5
    count := by
      rw [STEP_main_v32_6]
      unfold step_main_v32_6
      dsimp only [id]
      rw [h.count]
      funext j
      exact (BitVec.ofNat_add n 1).symm
    stateF := fun i l => by rw [STEP_main_v32_7]; exact hF i l
    stateB := fun i l => by rw [STEP_main_v32_8]; exact hB i l
    outF := fun s i l hs => by
      rw [STEP_main_v32_9, rowF V ⟨n, hn⟩ h.count]
      by_cases e : s = ⟨n, hn⟩
      · subst e; rw [if_pos rfl]; exact hF i l
      · rw [if_neg e]
        exact h.outF s i l (by have : s.val ≠ n := fun h' => e (Fin.ext h'); omega)
    outB := fun s i l hs => by
      rw [STEP_main_v32_10, rowB V ⟨n, hn⟩ h.count]
      by_cases e : s = ⟨n, hn⟩
      · subst e; rw [if_pos rfl]; exact hB i l
      · rw [if_neg e]
        exact h.outB s i l (by have : s.val ≠ n := fun h' => e (Fin.ext h'); omega) }

theorem inv (n : ℕ) (hn : n ≤ 256) : Inv m c (entryContents preI m c) (STEP^[n] (entryContents preI m c)) n := by
  induction n with
  | zero => exact inv_entry m c
  | succ n ih =>
    rw [Function.iterate_succ_apply']
    exact inv_step m c _ n hn (ih (by omega))

/-! ## The results -/

theorem resultF (n : Fin 8) (t : Fin 32) (i : Fin 64) (l : Fin 128) :
    (out_main_v33 (STEP^[256] (entryContents preI m c)) (ix4 n t i l) : EReal)
      = states m c 0 id (32 * n.val + t.val + 1) i l := by
  unfold out_main_v33
  pointwise
  refine ((inv m c 256 le_rfl).outF _ i l (Fin.isLt _)).trans ?_
  rw [show 32 * n.val + t.val = n.val * 32 + t.val by omega]

theorem resultB (n : Fin 8) (t : Fin 32) (i : Fin 64) (l : Fin 128) :
    (out_main_v35 (STEP^[256] (entryContents preI m c)) (ix4 n t i l) : EReal)
      = states m c 1 Gru.back (256 - (32 * n.val + t.val)) i l := by
  unfold out_main_v35
  pointwise
  refine ((inv m c 256 le_rfl).outB _ i l (Fin.isLt _)).trans ?_
  congr 1
  show (Fin.rev _ : Fin 256).val + 1 = _
  rw [Fin.val_rev]
  dsimp only
  omega

end Cert.ReferenceIdeal.Layer
-- ==== Proof.MatchA.lean ====
/- The layer and its reference give the same results on extended reals. -/
module

public import proofs.«01_k».proof.Defs
public import proofs.«01_k».proof.Proof.ValueA
public import proofs.«01_k».proof.Proof.RefA
public import Idealize.ShloMosaic.Lib.QuiescentFlight

@[expose] public section

noncomputable section

namespace Cert.KernelIdeal.Layer

open Idealize.ShloMosaic Idealize.ShloMosaic.TcCoe Idealize.SL.Sem Cert.KernelIdeal Cert.KernelIdeal.Gen

/-- The run of the layer: the two output arrays hold the states of the two directions, and the arguments are unchanged. -/
theorem run_states (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = arrF m c
      ∧ r.2.mem ((c : Thread nD τ).loc main_v0_1) = arrB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨((h c).1 7).trans (arrF_eq m c), ((h c).1 8).trans (arrB_eq m c), ?_, ?_, ?_, ?_, ?_, ?_⟩) (run_main m ρ)
  · exact ((h c).1 1).trans (((dats m 0 c).arrAt_in 1 rfl _).trans ((A_eq m c 1).trans (V_main_arg0 m c)))
  · exact ((h c).1 2).trans (((dats m 0 c).arrAt_in 2 rfl _).trans ((A_eq m c 2).trans (V_main_arg1 m c)))
  · exact ((h c).1 3).trans (((dats m 0 c).arrAt_in 3 rfl _).trans ((A_eq m c 3).trans (V_main_arg2 m c)))
  · exact ((h c).1 4).trans (((dats m 0 c).arrAt_in 4 rfl _).trans ((A_eq m c 4).trans (V_main_arg3 m c)))
  · exact ((h c).1 5).trans (((dats m 0 c).arrAt_in 5 rfl _).trans ((A_eq m c 5).trans (V_main_arg4 m c)))
  · exact ((h c).1 6).trans (((dats m 0 c).arrAt_in 6 rfl _).trans ((A_eq m c 6).trans (V_main_arg5 m c)))

end Cert.KernelIdeal.Layer

namespace Cert.ReferenceIdeal.Layer

open Idealize.ShloMosaic Idealize.SL.Sem

/-- The reference terminates, keeps its arguments and leaves no semaphore raised. -/
theorem frame : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

/-- From memories that agree on the arguments both programs end with the same results. -/
theorem agree : Cert.algebraic_KernelIdeal_ReferenceIdeal := by
  intro m g m' g' _ hm
  refine ⟨fun c => Cert.KernelIdeal.Layer.arrF m c, fun c => Cert.KernelIdeal.Layer.arrB m c,
    Cert.KernelIdeal.Layer.run_states m g, ?_⟩
  refine (θ_run Cert.ReferenceIdeal.defs _ _).mono (fun r h c => ?_) (Cert.ReferenceIdeal.Value.run m' g')
  have e : ∀ d p n, states m' c d p n = Cert.KernelIdeal.Layer.states m c d p n := fun d p n => by
    obtain ⟨h0, h1, h2, h3, h4, h5⟩ := hm c
    unfold states Cert.KernelIdeal.Layer.states
    rw [Gru.states_eq]
    erw [h0, h1, h2, h3, h4, h5]
  refine ⟨(h c).1.trans ?_, (h c).2.1.trans ?_, (h c).2.2⟩
  · funext j
    obtain ⟨j0, j1, j2, j3, rfl⟩ : ∃ a b i l, j = ix4 a b i l := ⟨j 0, j 1, j 2, j 3, eq_ix4 j⟩
    exact (resultF m' c j0 j1 j2 j3).trans (congrFun (congrFun (e _ _ _) _) _)
  · funext j
    obtain ⟨j0, j1, j2, j3, rfl⟩ : ∃ a b i l, j = ix4 a b i l := ⟨j 0, j 1, j 2, j 3, eq_ix4 j⟩
    exact (resultB m' c j0 j1 j2 j3).trans (congrFun (congrFun (e _ _ _) _) _)

end Cert.ReferenceIdeal.Layer
-- ==== Proof.LoopB.lean ====
/- The time loop of the layer's body: the states that it goes through, and what its stores leave in the
   four buffers that it writes. -/
module

public import proofs.«01_k».proof.Proof.Gen.Kernel2Ideal.Frame.Runs
public import Idealize.ShloMosaic.Lib.PointwiseCore
public import Idealize.ShloMosaic.Lib.WritesUnit

@[expose] public section

set_option maxRecDepth 16384

noncomputable section

namespace Cert.Kernel2Ideal.Layer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The trips and their offsets -/

theorem trips_eq : k0_t1_loop.trips = 32 := by decide

theorem off1_eq : ∀ k : Fin k0_t1_loop.trips, k0_off1 k = ![k.val, 0, 0] := by decide +kernel
theorem off2_eq : ∀ k : Fin k0_t1_loop.trips, k0_off2 k = ![0, k.val, 0, 0] := by decide +kernel
theorem off3_eq : ∀ k : Fin k0_t1_loop.trips, k0_off3 k = ![31 - k.val, 0, 0] := by decide +kernel
theorem off4_eq : ∀ k : Fin k0_t1_loop.trips, k0_off4 k = ![0, 31 - k.val, 0, 0] := by decide +kernel

/-! ## One step in either direction, and the states after `n` steps -/

/-- The forward state after trip `k`, from the state `h` before it. -/
def stepF (len : Vec F S64x128 .f32) (t0 : BitVec 32) (w : Vec F S2x128x384 .bf16) (b : Vec F S2x1x384 .f32)
    (xg : Vec F S32x64x384 .f32) (k : Fin k0_t1_loop.trips) (h : Vec F S64x128 .f32) : Vec F S64x128 .f32 :=
  k0_pay3 len t0 0#32 1#32 k
    (View.ld xg (Rect.unit (s := S32x64x384) (k0_off1 k) S1x64x384.size (k0_off1_inb k))) h
    (View.ld w (Rect.unit (s := S2x128x384) ![0, 0, 0] S1x128x384.size inb_S2x128x384_S1x128x384_0_0_0))
    (View.ld b (Rect.unit (s := S2x1x384) ![0, 0, 0] S1x1x384.size inb_S2x1x384_S1x1x384_0_0_0))

/-- The backward state after trip `k`, from the state `h` before it. -/
def stepB (len : Vec F S64x128 .f32) (t0 : BitVec 32) (w : Vec F S2x128x384 .bf16) (b : Vec F S2x1x384 .f32)
    (xg : Vec F S32x64x384 .f32) (k : Fin k0_t1_loop.trips) (h : Vec F S64x128 .f32) : Vec F S64x128 .f32 :=
  k0_pay6 len t0 (Scf.iv 0#32 1#32 k) 31#32
    (View.ld xg (Rect.unit (s := S32x64x384) (k0_off3 k) S1x64x384.size (k0_off3_inb k))) h
    (View.ld w (Rect.unit (s := S2x128x384) ![1, 0, 0] S1x128x384.size inb_S2x128x384_S1x128x384_1_0_0))
    (View.ld b (Rect.unit (s := S2x1x384) ![1, 0, 0] S1x1x384.size inb_S2x1x384_S1x1x384_1_0_0))

/-- The state after the first `n` trips of a step function, from `h`. -/
def after (step : Fin k0_t1_loop.trips → Vec F S64x128 .f32 → Vec F S64x128 .f32) (h : Vec F S64x128 .f32) :
    ℕ → Vec F S64x128 .f32
  | 0 => h
  | n + 1 => if hn : n < k0_t1_loop.trips then step ⟨n, hn⟩ (after step h n) else after step h n

theorem after_succ (step : Fin k0_t1_loop.trips → Vec F S64x128 .f32 → Vec F S64x128 .f32) (h : Vec F S64x128 .f32)
    (k : Fin k0_t1_loop.trips) : after step h (k.val + 1) = step k (after step h k.val) := by
  rw [after, dif_pos k.isLt]

/-- The state's two coordinates, out of an index of an output block. -/
abbrev cell (y : S1x32x64x128.Idx) : S64x128.Idx := ix2 (y 2) (y 3)

/-! ## What one trip stores -/

theorem read_store_zero {S : Shape} {e : EltTy} {off : Fin S.rank → ℕ} (h : off = fun _ => 0) (v : View sig .tc .vmem S e)
    (f : v.ty.Contents (Elt F)) (inb) (w : Vec F S e) :
    v.read (Elt F) (v.writes (Elt F) f [(⟨Rect.unit (s := S) off S.size inb, w⟩ : View.Piece (Elt F) S e)]) = w := by
  funext y
  exact View.read_writes_cons_unit_of_mem v f inb w [] y y h (fun a => (Nat.zero_add _).symm)

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

theorem read_store_all (v : View sig .tc .vmem S64x128 .f32) (f : v.ty.Contents (Elt F)) (inb) (w : Vec F S64x128 .f32) :
    v.read (Elt F) (v.writes (Elt F) f [(⟨Rect.unit (s := S64x128) ![0, 0] S64x128.size inb, w⟩ : View.Piece (Elt F) S64x128 .f32)]) = w :=
  read_store_zero zero2 v f inb w

theorem readAt_all (v : View sig .tc .vmem S64x128 .f32) (f : v.ty.Contents (Elt F)) (inb) :
    v.readAt (Elt F) (Rect.unit (s := S64x128) ![0, 0] S64x128.size inb).toLoadRect f = v.read (Elt F) f :=
  View.ld_unit_zero (S := S64x128) zero2 inb (v.read (Elt F) f)

section trip

variable (𝒱 : Variants) (c : Dev nD) (bd : Option 𝒱.V) (i : grid0.Coords)
  (arg1 : Memref sig .tc .vmem S1x32x64x256 .bf16) (harg1 : arg1.IsWhole)
  (arg2 : Memref sig .tc .vmem S1x32x64x256 .bf16) (harg2 : arg2.IsWhole)
  (arg3 : Memref sig .tc .vmem S2x256x384 .bf16) (harg3 : arg3.IsWhole)
  (arg4 : Memref sig .tc .vmem S2x128x384 .bf16) (harg4 : arg4.IsWhole)
  (arg5 : Memref sig .tc .vmem S2x1x384 .f32) (harg5 : arg5.IsWhole)
  (arg6 : Memref sig .tc .vmem S2x1x384 .f32) (harg6 : arg6.IsWhole)
  (arg7 : Memref sig .tc .vmem S64x128 .f32) (harg7 : arg7.IsWhole)
  (arg8 : Memref sig .tc .vmem S1x32x64x128 .f32) (harg8 : arg8.IsWhole)
  (arg9 : Memref sig .tc .vmem S1x32x64x128 .f32) (harg9 : arg9.IsWhole)
  (arg10 : Memref sig .tc .vmem S32x64x384 .f32) (harg10 : arg10.IsWhole)
  (arg11 : Memref sig .tc .vmem S32x64x384 .f32) (harg11 : arg11.IsWhole)
  (arg12 : Memref sig .tc .vmem S64x128 .f32) (harg12 : arg12.IsWhole)
  (arg13 : Memref sig .tc .vmem S64x128 .f32) (harg13 : arg13.IsWhole)
  (len : Vec F S64x128 .f32) (tf tb : BitVec 32)
  (X4 : BufTy.Contents (Elt F) arg4.view.ty) (X6 : BufTy.Contents (Elt F) arg6.view.ty)
  (X10 : BufTy.Contents (Elt F) arg10.view.ty) (X11 : BufTy.Contents (Elt F) arg11.view.ty)

/-- The forward step over the contents that the loop finds in its buffers. -/
abbrev stF : Fin k0_t1_loop.trips → Vec F S64x128 .f32 → Vec F S64x128 .f32 :=
  stepF len tf (arg4.view.read (Elt F) X4) (arg6.view.read (Elt F) X6) (arg10.view.read (Elt F) X10)
/-- The backward step over the contents that the loop finds in its buffers. -/
abbrev stB : Fin k0_t1_loop.trips → Vec F S64x128 .f32 → Vec F S64x128 .f32 :=
  stepB len tb (arg4.view.read (Elt F) X4) (arg6.view.read (Elt F) X6) (arg11.view.read (Elt F) X11)

theorem cast_same (h : S64x128.ShapeCasts S64x128) (x : Vec F S64x128 .f32) : shapeCast S64x128 x h = x := by
  funext j; pointwise

theorem pay4_eq (a b c d e f g h j) : k0_pay4 (F := F) a b c d e f g h j = k0_pay3 a b c d e f g h j := by
  unfold k0_pay4; exact cast_same _ _
theorem pay7_eq (a b c d e f g h) : k0_pay7 (F := F) a b c d e f g h = k0_pay6 a b c d e f g h := by
  unfold k0_pay7; exact cast_same _ _
theorem pay5_apply (a b c d e f g h j) (y : S1x1x64x128.Idx) :
    k0_pay5 (F := F) a b c d e f g h j y = k0_pay3 a b c d e f g h j (ix2 (y 2) (y 3)) := by
  unfold k0_pay5; generalize k0_pay3 (F := F) a b c d e f g h j = v; pointwise
theorem pay8_apply (a b c d e f g h) (y : S1x1x64x128.Idx) :
    k0_pay8 (F := F) a b c d e f g h y = k0_pay6 a b c d e f g h (ix2 (y 2) (y 3)) := by
  unfold k0_pay8; generalize k0_pay6 (F := F) a b c d e f g h = v; pointwise

theorem trip12 (k : Fin k0_t1_loop.trips) (f8 f9 f12 f13) :
    arg12.view.read (Elt F) (arg12.view.writes (Elt F) f12 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.2.1 f8 f9 f12 f13))
      = stF arg4 arg6 arg10 len tf X4 X6 X10 k (arg12.view.read (Elt F) f12) := by
  unfold trip_k0_t1
  dsimp only
  rw [read_store_all, pay4_eq, readAt_all]
  rfl

theorem trip13 (k : Fin k0_t1_loop.trips) (f8 f9 f12 f13) :
    arg13.view.read (Elt F) (arg13.view.writes (Elt F) f13 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.2.2.1 f8 f9 f12 f13))
      = stB arg4 arg6 arg11 len tb X4 X6 X11 k (arg13.view.read (Elt F) f13) := by
  unfold trip_k0_t1
  dsimp only
  rw [read_store_all, pay7_eq, readAt_all]
  rfl

theorem trip8_hit (k : Fin k0_t1_loop.trips) (f8 f9 f12 f13) (y : S1x32x64x128.Idx) (hy : (y 1).val = k.val) :
    arg8.view.read (Elt F) (arg8.view.writes (Elt F) f8 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).1 f8 f9 f12 f13)) y
      = stF arg4 arg6 arg10 len tf X4 X6 X10 k (arg12.view.read (Elt F) f12) (cell y) := by
  unfold trip_k0_t1
  dsimp only
  refine (View.read_writes_cons_unit_of_mem (s := S1x32x64x128) arg8.view f8 _ _ [] y (ix4 0 0 (y 2) (y 3)) (off2_eq k) ?_).trans ?_
  · intro a
    fin_cases a
    · show (y 0).val = 0 + 0
      have := (y 0).isLt; change (y 0).val < 1 at this; omega
    · exact hy
    · exact (Nat.zero_add _).symm
    · exact (Nat.zero_add _).symm
  · refine (pay5_apply _ _ _ _ _ _ _ _ _ _).trans ?_
    rw [readAt_all]
    rfl

theorem trip8_miss (k : Fin k0_t1_loop.trips) (f8 f9 f12 f13) (y : S1x32x64x128.Idx) (hy : (y 1).val ≠ k.val) :
    arg8.view.read (Elt F) (arg8.view.writes (Elt F) f8 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).1 f8 f9 f12 f13)) y
      = arg8.view.read (Elt F) f8 y := by
  unfold trip_k0_t1
  dsimp only
  refine (View.read_writes_cons_unit_of_not_mem (s := S1x32x64x128) arg8.view f8 _ _ [] y (off2_eq k) 1 ?_).trans rfl
  show (y 1).val < k.val ∨ k.val + 1 ≤ (y 1).val
  omega

theorem trip9_hit (k : Fin k0_t1_loop.trips) (f8 f9 f12 f13) (y : S1x32x64x128.Idx) (hy : (y 1).val = 31 - k.val) :
    arg9.view.read (Elt F) (arg9.view.writes (Elt F) f9 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.1 f8 f9 f12 f13)) y
      = stB arg4 arg6 arg11 len tb X4 X6 X11 k (arg13.view.read (Elt F) f13) (cell y) := by
  unfold trip_k0_t1
  dsimp only
  refine (View.read_writes_cons_unit_of_mem (s := S1x32x64x128) arg9.view f9 _ _ [] y (ix4 0 0 (y 2) (y 3)) (off4_eq k) ?_).trans ?_
  · intro a
    fin_cases a
    · show (y 0).val = 0 + 0
      have := (y 0).isLt; change (y 0).val < 1 at this; omega
    · exact hy
    · exact (Nat.zero_add _).symm
    · exact (Nat.zero_add _).symm
  · refine (pay8_apply _ _ _ _ _ _ _ _ _).trans ?_
    rw [readAt_all]
    rfl

theorem trip9_miss (k : Fin k0_t1_loop.trips) (f8 f9 f12 f13) (y : S1x32x64x128.Idx) (hy : (y 1).val ≠ 31 - k.val) :
    arg9.view.read (Elt F) (arg9.view.writes (Elt F) f9 ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 k).2.1 f8 f9 f12 f13)) y
      = arg9.view.read (Elt F) f9 y := by
  unfold trip_k0_t1
  dsimp only
  refine (View.read_writes_cons_unit_of_not_mem (s := S1x32x64x128) arg9.view f9 _ _ [] y (off4_eq k) 1 ?_).trans rfl
  show (y 1).val < 31 - k.val ∨ 31 - k.val + 1 ≤ (y 1).val
  omega

/-! ## What the loop leaves after `n` trips -/

variable (G8 : BufTy.Contents (Elt F) arg8.view.ty) (G9 : BufTy.Contents (Elt F) arg9.view.ty)
  (G12 : BufTy.Contents (Elt F) arg12.view.ty) (G13 : BufTy.Contents (Elt F) arg13.view.ty)

/-- The four buffers after `n` trips: the two states, and the rows of the two outputs that those trips wrote. -/
theorem loop_values (n : ℕ) (hn : n ≤ k0_t1_loop.trips) :
    arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).2.2.1)
        = after (stF arg4 arg6 arg10 len tf X4 X6 X10) (arg12.view.read (Elt F) G12) n
    ∧ arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).2.2.2)
        = after (stB arg4 arg6 arg11 len tb X4 X6 X11) (arg13.view.read (Elt F) G13) n
    ∧ (∀ y : S1x32x64x128.Idx, (y 1).val < n →
        arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).1) y
          = after (stF arg4 arg6 arg10 len tf X4 X6 X10) (arg12.view.read (Elt F) G12) ((y 1).val + 1) (cell y))
    ∧ (∀ y : S1x32x64x128.Idx, 31 - (y 1).val < n →
        arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 n).2.1) y
          = after (stB arg4 arg6 arg11 len tb X4 X6 X11) (arg13.view.read (Elt F) G13) (31 - (y 1).val + 1) (cell y)) := by
  induction n with
  | zero => exact ⟨rfl, rfl, fun y h => absurd h (Nat.not_lt_zero _), fun y h => absurd h (Nat.not_lt_zero _)⟩
  | succ n ih =>
    obtain ⟨i12, i13, i8, i9⟩ := ih (Nat.le_of_succ_le hn)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 len tf tb X4 X6 X10 X11 G8 G9 G12 G13 ⟨n, hn⟩
    have ht := trips_eq
    dsimp only at e
    rw [e]
    dsimp only [tripL_k0_t1]
    refine ⟨?_, ?_, ?_, ?_⟩
    · rw [View.writes_append, trip12, i12, after_succ _ _ ⟨n, hn⟩]
    · rw [View.writes_append, trip13, i13, after_succ _ _ ⟨n, hn⟩]
    · intro y hy
      rw [View.writes_append]
      by_cases h : (y 1).val = n
      · rw [trip8_hit (hy := h), i12, h, after_succ _ _ ⟨n, hn⟩]
      · rw [trip8_miss (hy := h)]
        exact i8 y (by omega)
    · intro y hy
      rw [View.writes_append]
      have hl := (y 1).isLt
      change (y 1).val < 32 at hl
      by_cases h : (y 1).val = 31 - n
      · have h' : 31 - (y 1).val = n := by omega
        rw [trip9_hit (hy := h), i13, h', after_succ _ _ ⟨n, hn⟩]
      · rw [trip9_miss (hy := h)]
        exact i9 y (by omega)

end trip

end Cert.Kernel2Ideal.Layer
end
-- ==== Proof.BodyB.lean ====
/- One point of the layer's grid: what the body leaves in its two output blocks and in the two states that it
   carries, from the blocks that it is given and the states that it starts from. -/
module

public import proofs.«01_k».proof.Proof.LoopB

@[expose] public section

set_option maxRecDepth 16384

noncomputable section

namespace Cert.Kernel2Ideal.Layer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The forward input terms of one block of 32 steps: its product with the input weights, plus their bias. -/
def xgF (x : Vec F S1x32x64x256 .bf16) (w : Vec F S2x256x384 .bf16) (b : Vec F S2x1x384 .f32) : Vec F S32x64x384 .f32 :=
  k0_pay9 x (View.ld w (Rect.unit (s := S2x256x384) ![0, 0, 0] S1x256x384.size inb_S2x256x384_S1x256x384_0_0_0))
    (View.ld b (Rect.unit (s := S2x1x384) ![0, 0, 0] S1x1x384.size inb_S2x1x384_S1x1x384_0_0_0))

/-- The backward input terms of one block. -/
def xgB (x : Vec F S1x32x64x256 .bf16) (w : Vec F S2x256x384 .bf16) (b : Vec F S2x1x384 .f32) : Vec F S32x64x384 .f32 :=
  k0_pay10 x (View.ld w (Rect.unit (s := S2x256x384) ![1, 0, 0] S1x256x384.size inb_S2x256x384_S1x256x384_1_0_0))
    (View.ld b (Rect.unit (s := S2x1x384) ![1, 0, 0] S1x1x384.size inb_S2x1x384_S1x1x384_1_0_0))

/-- The time at which the forward block of grid point `i` starts; -/
def tF (i : grid0.Coords) : BitVec 32 := Scalar.muli (BitVec.ofNat 32 (i 0).val) 32#32
/-- and the backward block. -/
def tB (i : grid0.Coords) : BitVec 32 := Scalar.muli (Scalar.subi 7#32 (BitVec.ofNat 32 (i 0).val)) 32#32

section point

variable (i : grid0.Coords) (x0 x1 : Vec F S1x32x64x256 .bf16) (x2 : Vec F S2x256x384 .bf16) (x3 : Vec F S2x128x384 .bf16)
  (x4 x5 : Vec F S2x1x384 .f32) (x6 : Vec F S64x128 .f32)

/-- The forward states inside the block, from the state `h` before it. -/
def hF (h : Vec F S64x128 .f32) : ℕ → Vec F S64x128 .f32 := after (stepF x6 (tF i) x3 x5 (xgF x0 x2 x4)) h
/-- The backward states inside the block, from the state `h` before it. -/
def hB (h : Vec F S64x128 .f32) : ℕ → Vec F S64x128 .f32 := after (stepB x6 (tB i) x3 x5 (xgB x1 x2 x4)) h

/-- The forward output block: row `r` is the state after step `r`. -/
def blockF (h : Vec F S64x128 .f32) : Vec F S1x32x64x128 .f32 := fun y => hF i x0 x2 x3 x4 x5 x6 h ((y 1).val + 1) (cell y)
/-- The backward output block: row `r` is the state after the step that reads row `r`, of those taken from row 31 down. -/
def blockB (h : Vec F S64x128 .f32) : Vec F S1x32x64x128 .f32 := fun y => hB i x1 x2 x3 x4 x5 x6 h (31 - (y 1).val + 1) (cell y)

end point

/-- What the body's loop leaves: the two output blocks and the two carried states. -/
theorem loop_out (c : Dev nD) (i : grid0.Coords)
    (arg1 : Memref sig .tc .vmem S1x32x64x256 .bf16) (harg1 : arg1.IsWhole)
    (arg2 : Memref sig .tc .vmem S1x32x64x256 .bf16) (harg2 : arg2.IsWhole)
    (arg3 : Memref sig .tc .vmem S2x256x384 .bf16) (harg3 : arg3.IsWhole)
    (arg4 : Memref sig .tc .vmem S2x128x384 .bf16) (harg4 : arg4.IsWhole)
    (arg5 : Memref sig .tc .vmem S2x1x384 .f32) (harg5 : arg5.IsWhole)
    (arg6 : Memref sig .tc .vmem S2x1x384 .f32) (harg6 : arg6.IsWhole)
    (arg7 : Memref sig .tc .vmem S64x128 .f32) (harg7 : arg7.IsWhole)
    (arg8 : Memref sig .tc .vmem S1x32x64x128 .f32) (harg8 : arg8.IsWhole)
    (arg9 : Memref sig .tc .vmem S1x32x64x128 .f32) (harg9 : arg9.IsWhole)
    (arg10 : Memref sig .tc .vmem S32x64x384 .f32) (harg10 : arg10.IsWhole)
    (arg11 : Memref sig .tc .vmem S32x64x384 .f32) (harg11 : arg11.IsWhole)
    (arg12 : Memref sig .tc .vmem S64x128 .f32) (harg12 : arg12.IsWhole)
    (arg13 : Memref sig .tc .vmem S64x128 .f32) (harg13 : arg13.IsWhole)
    (x0 x1 : Vec F S1x32x64x256 .bf16) (x2 : Vec F S2x256x384 .bf16) (x3 : Vec F S2x128x384 .bf16)
    (x4 x5 : Vec F S2x1x384 .f32) (x6 : Vec F S64x128 .f32) (sF sB : Vec F S64x128 .f32)
    {len : Vec F S64x128 .f32}
    {X4 : BufTy.Contents (Elt F) arg4.view.ty} {X6 : BufTy.Contents (Elt F) arg6.view.ty}
    {X10 : BufTy.Contents (Elt F) arg10.view.ty} {X11 : BufTy.Contents (Elt F) arg11.view.ty}
    (G8 : BufTy.Contents (Elt F) arg8.view.ty) (G9 : BufTy.Contents (Elt F) arg9.view.ty)
    {G12 : BufTy.Contents (Elt F) arg12.view.ty} {G13 : BufTy.Contents (Elt F) arg13.view.ty}
    (hlen : len = x6) (h4 : arg4.view.read (Elt F) X4 = x3) (h6 : arg6.view.read (Elt F) X6 = x5)
    (h10 : arg10.view.read (Elt F) X10 = xgF x0 x2 x4) (h11 : arg11.view.read (Elt F) X11 = xgB x1 x2 x4)
    (h12 : arg12.view.read (Elt F) G12 = sF) (h13 : arg13.view.read (Elt F) G13 = sB) :
    arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).1) = blockF i x0 x2 x3 x4 x5 x6 sF
    ∧ arg9.view.read (Elt F) (arg9.view.writes (Elt F) G9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).2.1) = blockB i x1 x2 x3 x4 x5 x6 sB
    ∧ arg12.view.read (Elt F) (arg12.view.writes (Elt F) G12 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).2.2.1) = hF i x0 x2 x3 x4 x5 x6 sF 32
    ∧ arg13.view.read (Elt F) (arg13.view.writes (Elt F) G13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips).2.2.2) = hB i x1 x2 x3 x4 x5 x6 sB 32 := by
  subst hlen
  obtain ⟨a12, a13, a8, a9⟩ := loop_values (F := F) Variants.none c none i arg1 harg1 arg2 harg2 arg3 harg3 arg4 harg4 arg5 harg5 arg6 harg6 arg7 harg7 arg8 harg8 arg9 harg9 arg10 harg10 arg11 harg11 arg12 harg12 arg13 harg13 len (tF i) (tB i) X4 X6 X10 X11 G8 G9 G12 G13 k0_t1_loop.trips le_rfl
  unfold stF stB at *
  rw [h4, h6] at a12 a13 a8 a9
  rw [h10, h12] at a12 a8
  rw [h11, h13] at a13 a9
  have ht := trips_eq
  refine ⟨?_, ?_, ?_, ?_⟩
  · funext y
    have hl := (y 1).isLt
    change (y 1).val < 32 at hl
    rw [a8 y (by omega)]
    rfl
  · funext y
    rw [a9 y (by omega)]
    rfl
  · rw [a12, ht]; rfl
  · rw [a13, ht]; rfl

/-- The body at the first point, which sets both states to zero. -/
theorem body_first (c : Dev nD) (i : grid0.Coords)
    (arg1 : Memref sig .tc .vmem S1x32x64x256 .bf16) (harg1 : arg1.IsWhole)
    (arg2 : Memref sig .tc .vmem S1x32x64x256 .bf16) (harg2 : arg2.IsWhole)
    (arg3 : Memref sig .tc .vmem S2x256x384 .bf16) (harg3 : arg3.IsWhole)
    (arg4 : Memref sig .tc .vmem S2x128x384 .bf16) (harg4 : arg4.IsWhole)
    (arg5 : Memref sig .tc .vmem S2x1x384 .f32) (harg5 : arg5.IsWhole)
    (arg6 : Memref sig .tc .vmem S2x1x384 .f32) (harg6 : arg6.IsWhole)
    (arg7 : Memref sig .tc .vmem S64x128 .f32) (harg7 : arg7.IsWhole)
    (arg8 : Memref sig .tc .vmem S1x32x64x128 .f32) (harg8 : arg8.IsWhole)
    (arg9 : Memref sig .tc .vmem S1x32x64x128 .f32) (harg9 : arg9.IsWhole)
    (arg10 : Memref sig .tc .vmem S32x64x384 .f32) (harg10 : arg10.IsWhole)
    (arg11 : Memref sig .tc .vmem S32x64x384 .f32) (harg11 : arg11.IsWhole)
    (arg12 : Memref sig .tc .vmem S64x128 .f32) (harg12 : arg12.IsWhole)
    (arg13 : Memref sig .tc .vmem S64x128 .f32) (harg13 : arg13.IsWhole)
    (hc0 : cond0_0 i)
    (x0 x1 : Vec F S1x32x64x256 .bf16) (x2 : Vec F S2x256x384 .bf16) (x3 : Vec F S2x128x384 .bf16)
    (x4 x5 : Vec F S2x1x384 .f32) (x6 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6
          ∗ owns (c : Thread nD τ) arg8 fullShare (blockF i x0 x2 x3 x4 x5 x6 k0_pay1)
          ∗ owns (c : Thread nD τ) arg9 fullShare (blockB i x1 x2 x3 x4 x5 x6 k0_pay2)
          ∗ (∃ d, owns (c : Thread nD τ) arg10 fullShare d) ∗ (∃ d, owns (c : Thread nD τ) arg11 fullShare d)
          ∗ owns (c : Thread nD τ) arg12 fullShare (hF i x0 x2 x3 x4 x5 x6 k0_pay1 32)
          ∗ owns (c : Thread nD τ) arg13 fullShare (hB i x1 x2 x3 x4 x5 x6 k0_pay2 32)) -∗ K ⟨⟩))
      ⊢ wp frame (wpE (defs₀ (F := F)) Variants.none c none) E (cc0_bigru_layer i arg1 harg1 arg2 harg2 arg3 harg3 arg4 harg4 arg5 harg5 arg6 harg6 arg7 harg7 arg8 harg8 arg9 harg9 arg10 harg10 arg11 harg11 arg12 harg12 arg13 harg13) K := by
  simp only [cc0_bigru_layer_eq_skeleton]; unfold cc0_bigru_layer_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  have hx10 : arg10.view.read (Elt F) (arg10.view.writes (Elt F) arg10.view.junk (body_first.sl.HS0_1 c arg1 harg1 arg3 harg3 arg5 harg5 x0 x2 x4)) = xgF x0 x2 x4 := by
    sl_unfold_words
    rw [read_store_zero zero3]
    simp only [View.readAt_eq_ld, harg1.read_unread, harg3.read_unread, harg5.read_unread]
    rw [View.ld_unit_zero (S := S1x32x64x256) zero4]
    rfl
  have hx11 : arg11.view.read (Elt F) (arg11.view.writes (Elt F) arg11.view.junk (body_first.sl.HS1_1 c arg2 harg2 arg3 harg3 arg5 harg5 x1 x2 x4)) = xgB x1 x2 x4 := by
    sl_unfold_words
    rw [read_store_zero zero3]
    simp only [View.readAt_eq_ld, harg2.read_unread, harg3.read_unread, harg5.read_unread]
    rw [View.ld_unit_zero (S := S1x32x64x256) zero4]
    rfl
  have hout := loop_out c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 k0_pay1 k0_pay2 f7 f8 ((readAt_all arg7.view (harg7.unread x6) inb_S64x128_S64x128_0_0).trans (harg7.read_unread x6))
    (harg4.read_unread x3) (harg6.read_unread x5) hx10 hx11
    (G12 := arg12.view.writes (Elt F) arg12.view.junk body_first.sl.HS2_1) (G13 := arg13.view.writes (Elt F) arg13.view.junk body_first.sl.HS3_1) (by sl_unfold_words; exact read_store_all _ _ _ _) (by sl_unfold_words; exact read_store_all _ _ _ _)
  isplitl [H7]
  · iexists _; isplitr; swap; · iexact H7
    ipureintro
    exact hout.1
  isplitl [H8]
  · iexists _; isplitr; swap; · iexact H8
    ipureintro
    exact hout.2.1
  isplitl [HS0]
  · iexists _, _; isplitr; swap; · iexact HS0
    ipureintro; rfl
  isplitl [HS1]
  · iexists _, _; isplitr; swap; · iexact HS1
    ipureintro; rfl
  isplitl [HS2]
  · iexists _; isplitr; swap; · iexact HS2
    ipureintro
    rw [View.writes_append]; exact hout.2.2.1
  iexists _; isplitr; swap; · iexact HS3
  ipureintro
  rw [View.writes_append]; exact hout.2.2.2

/-- The body at a later point, which goes on from the states that the point before left. -/
theorem body_next (c : Dev nD) (i : grid0.Coords)
    (arg1 : Memref sig .tc .vmem S1x32x64x256 .bf16) (harg1 : arg1.IsWhole)
    (arg2 : Memref sig .tc .vmem S1x32x64x256 .bf16) (harg2 : arg2.IsWhole)
    (arg3 : Memref sig .tc .vmem S2x256x384 .bf16) (harg3 : arg3.IsWhole)
    (arg4 : Memref sig .tc .vmem S2x128x384 .bf16) (harg4 : arg4.IsWhole)
    (arg5 : Memref sig .tc .vmem S2x1x384 .f32) (harg5 : arg5.IsWhole)
    (arg6 : Memref sig .tc .vmem S2x1x384 .f32) (harg6 : arg6.IsWhole)
    (arg7 : Memref sig .tc .vmem S64x128 .f32) (harg7 : arg7.IsWhole)
    (arg8 : Memref sig .tc .vmem S1x32x64x128 .f32) (harg8 : arg8.IsWhole)
    (arg9 : Memref sig .tc .vmem S1x32x64x128 .f32) (harg9 : arg9.IsWhole)
    (arg10 : Memref sig .tc .vmem S32x64x384 .f32) (harg10 : arg10.IsWhole)
    (arg11 : Memref sig .tc .vmem S32x64x384 .f32) (harg11 : arg11.IsWhole)
    (arg12 : Memref sig .tc .vmem S64x128 .f32) (harg12 : arg12.IsWhole)
    (arg13 : Memref sig .tc .vmem S64x128 .f32) (harg13 : arg13.IsWhole)
    (hc0 : ¬cond0_0 i)
    (x0 x1 : Vec F S1x32x64x256 .bf16) (x2 : Vec F S2x256x384 .bf16) (x3 : Vec F S2x128x384 .bf16)
    (x4 x5 : Vec F S2x1x384 .f32) (x6 : Vec F S64x128 .f32) (s2 s3 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ owns (c : Thread nD τ) arg12 fullShare s2 ∗ owns (c : Thread nD τ) arg13 fullShare s3
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6
          ∗ owns (c : Thread nD τ) arg8 fullShare (blockF i x0 x2 x3 x4 x5 x6 s2)
          ∗ owns (c : Thread nD τ) arg9 fullShare (blockB i x1 x2 x3 x4 x5 x6 s3)
          ∗ (∃ d, owns (c : Thread nD τ) arg10 fullShare d) ∗ (∃ d, owns (c : Thread nD τ) arg11 fullShare d)
          ∗ owns (c : Thread nD τ) arg12 fullShare (hF i x0 x2 x3 x4 x5 x6 s2 32)
          ∗ owns (c : Thread nD τ) arg13 fullShare (hB i x1 x2 x3 x4 x5 x6 s3 32)) -∗ K ⟨⟩))
      ⊢ wp frame (wpE (defs₀ (F := F)) Variants.none c none) E (cc0_bigru_layer i arg1 harg1 arg2 harg2 arg3 harg3 arg4 harg4 arg5 harg5 arg6 harg6 arg7 harg7 arg8 harg8 arg9 harg9 arg10 harg10 arg11 harg11 arg12 harg12 arg13 harg13) K := by
  simp only [cc0_bigru_layer_eq_skeleton]; unfold cc0_bigru_layer_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs2; obtain rfl := harg13.eq_unread hfs3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  have hx10 : arg10.view.read (Elt F) (arg10.view.writes (Elt F) arg10.view.junk (body_next.sl.HS0_1 c arg1 harg1 arg3 harg3 arg5 harg5 x0 x2 x4)) = xgF x0 x2 x4 := by
    sl_unfold_words
    rw [read_store_zero zero3]
    simp only [View.readAt_eq_ld, harg1.read_unread, harg3.read_unread, harg5.read_unread]
    rw [View.ld_unit_zero (S := S1x32x64x256) zero4]
    rfl
  have hx11 : arg11.view.read (Elt F) (arg11.view.writes (Elt F) arg11.view.junk (body_next.sl.HS1_1 c arg2 harg2 arg3 harg3 arg5 harg5 x1 x2 x4)) = xgB x1 x2 x4 := by
    sl_unfold_words
    rw [read_store_zero zero3]
    simp only [View.readAt_eq_ld, harg2.read_unread, harg3.read_unread, harg5.read_unread]
    rw [View.ld_unit_zero (S := S1x32x64x256) zero4]
    rfl
  have hout := loop_out c i arg1 harg1 arg2 harg2 arg3 harg3 arg4 harg4 arg5 harg5 arg6 harg6 arg7 harg7 arg8 harg8 arg9 harg9 arg10 harg10 arg11 harg11 arg12 harg12 arg13 harg13
    x0 x1 x2 x3 x4 x5 x6 s2 s3 f7 f8 ((readAt_all arg7.view (harg7.unread x6) inb_S64x128_S64x128_0_0).trans (harg7.read_unread x6))
    (harg4.read_unread x3) (harg6.read_unread x5) hx10 hx11
    (G12 := harg12.unread s2) (G13 := harg13.unread s3) (harg12.read_unread s2) (harg13.read_unread s3)
  isplitl [H7]
  · iexists _; isplitr; swap; · iexact H7
    ipureintro
    exact hout.1
  isplitl [H8]
  · iexists _; isplitr; swap; · iexact H8
    ipureintro
    exact hout.2.1
  isplitl [HS0]
  · iexists _, _; isplitr; swap; · iexact HS0
    ipureintro; rfl
  isplitl [HS1]
  · iexists _, _; isplitr; swap; · iexact HS1
    ipureintro; rfl
  isplitl [HS2]
  · iexists _; isplitr; swap; · iexact HS2
    ipureintro
    exact hout.2.2.1
  iexists _; isplitr; swap; · iexact HS3
  ipureintro
  exact hout.2.2.2

end Cert.Kernel2Ideal.Layer
end
-- ==== Proof.FrameB.lean ====
/- The layer's launch: the states carried from point to point, what every point leaves, the frame, and the two result
   arrays after the run. -/
module

public import proofs.«01_k».proof.Proof.BodyB
public import Idealize.ShloMosaic.Lib.Claim

@[expose] public section

set_option maxRecDepth 16384

noncomputable section

namespace Cert.Kernel2Ideal.Layer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The states before each point -/

/-- The two states before point `n`: zeros before the first, then what the point before left. -/
def carry (c : Dev nD) : (n : ℕ) → n ≤ cfg0.N → Vec F S64x128 .f32 × Vec F S64x128 .f32
  | 0, _ => (k0_pay1, k0_pay2)
  | n + 1, hn =>
    (hF (grid0.coords ⟨n, hn⟩) (iblk m c 0 ⟨n, hn⟩) (iblk m c 2 ⟨n, hn⟩) (iblk m c 3 ⟨n, hn⟩) (iblk m c 4 ⟨n, hn⟩) (iblk m c 5 ⟨n, hn⟩) (iblk m c 6 ⟨n, hn⟩) (carry c n (Nat.le_of_succ_le hn)).1 32,
     hB (grid0.coords ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (carry c n (Nat.le_of_succ_le hn)).2 32)

theorem carry_zero (c : Dev nD) (n : ℕ) (h : n ≤ cfg0.N) (hz : n = 0) : carry m c n h = (k0_pay1, k0_pay2) := by
  subst hz; rfl

theorem carry_succ (c : Dev nD) (t : Fin cfg0.N) :
    carry m c (t.val + 1) t.isLt
      = (hF (grid0.coords t) (iblk m c 0 t) (iblk m c 2 t) (iblk m c 3 t) (iblk m c 4 t) (iblk m c 5 t) (iblk m c 6 t) (carry m c t.val (Nat.le_of_lt t.isLt)).1 32,
         hB (grid0.coords t) (iblk m c 1 t) (iblk m c 2 t) (iblk m c 3 t) (iblk m c 4 t) (iblk m c 5 t) (iblk m c 6 t) (carry m c t.val (Nat.le_of_lt t.isLt)).2 32) := rfl

/-- What point `t` leaves in the forward output block; -/
def outF (c : Dev nD) (t : Fin cfg0.N) : Vec F S1x32x64x128 .f32 :=
  blockF (grid0.coords t) (iblk m c 0 t) (iblk m c 2 t) (iblk m c 3 t) (iblk m c 4 t) (iblk m c 5 t) (iblk m c 6 t) (carry m c t.val (Nat.le_of_lt t.isLt)).1
/-- and in the backward one. -/
def outB (c : Dev nD) (t : Fin cfg0.N) : Vec F S1x32x64x128 .f32 :=
  blockB (grid0.coords t) (iblk m c 1 t) (iblk m c 2 t) (iblk m c 3 t) (iblk m c 4 t) (iblk m c 5 t) (iblk m c 6 t) (carry m c t.val (Nat.le_of_lt t.isLt)).2

/-- What the launch holds beside the windows before point `n`: the scratch and the generator register, the two carried
    states at `carry` from the second point on. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((carry m c (n + 1) hn).1) ∗ owns (c : Thread nD τ) scM0_3 fullShare ((carry m c (n + 1) hn).2)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((carry m c n h).1) ∗ owns (c : Thread nD τ) scM0_3 fullShare ((carry m c n h).2)) ∗ (∃ r, prngReg c r)) := by
  cases n with
  | zero => exact absurd rfl hz
  | succ n => rfl

/-! ## The pipeline's proof data -/

/-- The arrays as the launch finds them; after point `t` each input's buffer at its block and the outputs' at `outF`, `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outF m c t
    | ⟨8, _⟩ => outB m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outF m c t := by dsimp only [dats]
theorem after0_8 (c : Dev nD) (t : Fin cfg0.N) : (dats m 0 c).after 8 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the first starts from zeros, a later one from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_pos m c _ _ (Nat.succ_ne_zero _),
    carry_succ, PhiS_castSucc m c t]
  unfold outF outB
  have hN : t.val < 8 := lt_of_lt_of_eq t.isLt (show cfg0.N = 8 from N_0)
  by_cases hz : t.val = 0
  · rw [PhiS_zero m c _ _ hz, PhiA0_eq, carry_zero m c _ _ hz]
    dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_next c (grid0.coords t) _ _ _ _ _ _ _ _ _ _ _ _ _ _ _ _ _ _ _ _ _ _ _ _ _ _ (fun h => hz (by have := (hcond0_0 t).mp h; omega)) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the carried states are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexact HS0
    isplitl [HS1]; · iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the frame claim's statement, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Layer
end
-- ==== Proof.BitsB.lean ====
/- The frame of the program over bit patterns, from the frame proved over any floats: the two prints are the same program. -/
module
public import proofs.«01_k».proof.Defs
public import proofs.«01_k».proof.Proof.FrameB
public import proofs.«01_k».proof.Proof.Gen.Kernel2.Launch
@[expose] public section
set_option maxRecDepth 16384
open Idealize.ShloMosaic Idealize.ShloMosaic.TcCoe
namespace Cert.Kernel2.Layer

theorem defs₀_eq : (Cert.Kernel2.defs₀ (F := Bits)) = (Cert.Kernel2Ideal.defs₀ (F := Bits)) := by
  unfold Cert.Kernel2.defs₀ Cert.Kernel2Ideal.defs₀
  refine congrArg Defs.onTc ?_
  funext l
  fin_cases l
  rfl

theorem defs_eq : (Cert.Kernel2.defs (F := Bits)) = (Cert.Kernel2Ideal.defs (F := Bits)) :=
  congrArg (Pipeline.defs (Cert.Kernel2Ideal.pcfgs (F := Bits))) defs₀_eq

theorem frame : Cert.quiescent_Kernel2 := fun m g _ => by
  rw [defs_eq]
  exact Cert.Kernel2Ideal.Layer.frame (F := Bits) m g

end Cert.Kernel2.Layer
-- ==== Proof.StepB.lean ====
/- The body's steps and input terms at a place, on extended reals, and the input blocks at a place of the
   arrays that they are cut from. -/
module

public import proofs.«01_k».proof.Proof.FrameB
public import proofs.«01_k».proof.Proof.Gru
public import Idealize.ShloMosaic.Lib.Pointwise
public import Idealize.ShloMosaic.Lib.Pipeline.ValueKit

@[expose] public section
noncomputable section
namespace Cert.Kernel2Ideal.Layer
open Idealize.ShloMosaic Idealize.ShloMosaic.TcCoe Cert.Kernel2Ideal Cert.Kernel2Ideal.Gen

theorem trip_lt (k : Fin k0_t1_loop.trips) : k.val < 32 := lt_of_lt_of_eq k.isLt trips_eq

theorem stepF_apply (len : Vec Ideal S64x128 .f32) (t0 : BitVec 32) (k : Fin k0_t1_loop.trips) (xr : Vec Ideal S32x64x384 .f32)
    (h : Vec Ideal S64x128 .f32) (w : Vec Ideal S2x128x384 .bf16) (b : Vec Ideal S2x1x384 .f32) (i : Fin 64) (l : Fin 128) :
    stepF len t0 w b xr k h (ix2 i l) = Gru.stepK (fun x g => w (ix3 0 x g)) (fun g => b (ix3 0 0 g))
      (Scalar.addi t0 (Scf.iv 0#32 1#32 k.val)).toInt
      (fun l => len (ix2 i l)) (fun g => xr (ix3 ⟨k.val, trip_lt k⟩ i g)) (fun l => h (ix2 i l)) l := by
  have e0 : k0_off1 k 0 = k.val := by rw [off1_eq]; rfl
  have e1 : k0_off1 k 1 = 0 := by rw [off1_eq]; rfl
  have e2 : k0_off1 k 2 = 0 := by rw [off1_eq]; rfl
  unfold stepF k0_pay3
  pointwise
  simp only [e0, e1, e2, Nat.zero_add]
  rfl

theorem stepB_apply (len : Vec Ideal S64x128 .f32) (t0 : BitVec 32) (k : Fin k0_t1_loop.trips) (xr : Vec Ideal S32x64x384 .f32)
    (h : Vec Ideal S64x128 .f32) (w : Vec Ideal S2x128x384 .bf16) (b : Vec Ideal S2x1x384 .f32) (i : Fin 64) (l : Fin 128) :
    stepB len t0 w b xr k h (ix2 i l) = Gru.stepK (fun x g => w (ix3 1 x g)) (fun g => b (ix3 1 0 g))
      (Scalar.addi t0 (Scalar.subi 31#32 (Scf.iv 0#32 1#32 k.val))).toInt
      (fun l => len (ix2 i l)) (fun g => xr (ix3 ⟨31 - k.val, by omega⟩ i g)) (fun l => h (ix2 i l)) l := by
  have e0 : k0_off3 k 0 = 31 - k.val := by rw [off3_eq]; rfl
  have e1 : k0_off3 k 1 = 0 := by rw [off3_eq]; rfl
  have e2 : k0_off3 k 2 = 0 := by rw [off3_eq]; rfl
  unfold stepB k0_pay6
  pointwise
  simp only [e0, e1, e2, Nat.zero_add]
  rfl

theorem xgF_apply (x : Vec Ideal S1x32x64x256 .bf16) (w : Vec Ideal S2x256x384 .bf16) (b : Vec Ideal S2x1x384 .f32)
    (t : Fin 32) (i : Fin 64) (g : Fin 384) :
    xgF x w b (ix3 t i g) = ∑ q : Fin 256, x (ix4 0 t i q) * w (ix3 0 q g) + b (ix3 0 0 g) := by
  unfold xgF k0_pay9
  pointwise

theorem xgB_apply (x : Vec Ideal S1x32x64x256 .bf16) (w : Vec Ideal S2x256x384 .bf16) (b : Vec Ideal S2x1x384 .f32)
    (t : Fin 32) (i : Fin 64) (g : Fin 384) :
    xgB x w b (ix3 t i g) = ∑ q : Fin 256, x (ix4 0 t i q) * w (ix3 1 q g) + b (ix3 1 0 g) := by
  unfold xgB k0_pay10
  pointwise

/-! ## The input blocks at a place -/

variable (m : (ℓ : Loc nD τ sig) → Buf (Elt Ideal) ℓ) (c : Dev nD)

theorem index0 : ∀ (t : Fin cfg0.N) a, win0_0.index t a = ![t.val, 0, 0, 0] a :=
  (by decide +kernel : ∀ (t : Fin grid0.N) a, win0_0.index t a = ![t.val, 0, 0, 0] a)
theorem index1 : ∀ (t : Fin cfg0.N) a, win0_1.index t a = ![7 - t.val, 0, 0, 0] a :=
  (by decide +kernel : ∀ (t : Fin grid0.N) a, win0_1.index t a = ![7 - t.val, 0, 0, 0] a)
theorem index2 : ∀ (t : Fin cfg0.N) a, win0_2.index t a = 0 := (by decide +kernel : ∀ (t : Fin grid0.N) a, win0_2.index t a = 0)
theorem index3 : ∀ (t : Fin cfg0.N) a, win0_3.index t a = 0 := (by decide +kernel : ∀ (t : Fin grid0.N) a, win0_3.index t a = 0)
theorem index4 : ∀ (t : Fin cfg0.N) a, win0_4.index t a = 0 := (by decide +kernel : ∀ (t : Fin grid0.N) a, win0_4.index t a = 0)
theorem index5 : ∀ (t : Fin cfg0.N) a, win0_5.index t a = 0 := (by decide +kernel : ∀ (t : Fin grid0.N) a, win0_5.index t a = 0)
theorem index6 : ∀ (t : Fin cfg0.N) a, win0_6.index t a = 0 := (by decide +kernel : ∀ (t : Fin grid0.N) a, win0_6.index t a = 0)
theorem index7 : ∀ (t : Fin cfg0.N) a, win0_7.index t a = ![t.val, 0, 0, 0] a :=
  (by decide +kernel : ∀ (t : Fin grid0.N) a, win0_7.index t a = ![t.val, 0, 0, 0] a)
theorem index8 : ∀ (t : Fin cfg0.N) a, win0_8.index t a = ![7 - t.val, 0, 0, 0] a :=
  (by decide +kernel : ∀ (t : Fin grid0.N) a, win0_8.index t a = ![7 - t.val, 0, 0, 0] a)

theorem point_lt (t : Fin cfg0.N) : t.val < 8 := lt_of_lt_of_eq t.isLt N_0

theorem block0 (t : Fin cfg0.N) (a : Fin 32) (i : Fin 64) (q : Fin 256) :
    iblk m c 0 t (ix4 0 a i q) = m ((c.tc : Thread nD τ).loc main_arg0) (ix4 ⟨t.val, point_lt t⟩ a i q) := by
  blk_ext [iblk, V, index0]

theorem block1 (t : Fin cfg0.N) (a : Fin 32) (i : Fin 64) (q : Fin 256) :
    iblk m c 1 t (ix4 0 a i q) = m ((c.tc : Thread nD τ).loc main_arg0) (ix4 ⟨7 - t.val, by omega⟩ a i q) := by
  blk_ext [iblk, V, index1]

theorem block2 (t : Fin cfg0.N) (d : Fin 2) (q : Fin 256) (g : Fin 384) :
    iblk m c 2 t (ix3 d q g) = m ((c.tc : Thread nD τ).loc main_arg1) (ix3 d q g) := by
  blk_ext [iblk, V, index2]

theorem block3 (t : Fin cfg0.N) (d : Fin 2) (q : Fin 128) (g : Fin 384) :
    iblk m c 3 t (ix3 d q g) = m ((c.tc : Thread nD τ).loc main_arg2) (ix3 d q g) := by
  blk_ext [iblk, V, index3]

theorem block4 (t : Fin cfg0.N) (d : Fin 2) (q : Fin 1) (g : Fin 384) :
    iblk m c 4 t (ix3 d q g) = m ((c.tc : Thread nD τ).loc main_arg3) (ix3 d q g) := by
  blk_ext [iblk, V, index4]

theorem block5 (t : Fin cfg0.N) (d : Fin 2) (q : Fin 1) (g : Fin 384) :
    iblk m c 5 t (ix3 d q g) = m ((c.tc : Thread nD τ).loc main_arg4) (ix3 d q g) := by
  blk_ext [iblk, V, index5]

theorem block6 (t : Fin cfg0.N) (i : Fin 64) (l : Fin 128) :
    iblk m c 6 t (ix2 i l) = m ((c.tc : Thread nD τ).loc main_arg5) (ix2 i l) := by
  blk_ext [iblk, V, index6]

end Cert.Kernel2Ideal.Layer
-- ==== Proof.ValueB.lean ====
/- What the layer's two output arrays hold after the run, on extended reals: the states of the recurrence. -/
module

public import proofs.«01_k».proof.Proof.StepB

@[expose] public section

noncomputable section

namespace Cert.Kernel2Ideal.Layer

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (c : Dev nD)

/-- The states of direction `d` over the arguments that device `c` holds. -/
def states (d : Fin 2) (p : ℕ → ℕ) : ℕ → Fin 64 → Fin 128 → EReal :=
  Gru.states (I := 256) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) d p

theorem timeF : ∀ (t : Fin cfg0.N) (k : Fin 32),
    (Scalar.addi (tF (grid0.coords t)) (Scf.iv 0#32 1#32 k.val)).toInt = ((32 * t.val + k.val : ℕ) : ℤ) :=
  (by decide +kernel : ∀ (t : Fin grid0.N) (k : Fin 32),
    (Scalar.addi (tF (grid0.coords t)) (Scf.iv 0#32 1#32 k.val)).toInt = ((32 * t.val + k.val : ℕ) : ℤ))

theorem timeB : ∀ (t : Fin cfg0.N) (k : Fin 32),
    (Scalar.addi (tB (grid0.coords t)) (Scalar.subi 31#32 (Scf.iv 0#32 1#32 k.val))).toInt
      = ((Gru.back (32 * t.val + k.val) : ℕ) : ℤ) :=
  (by decide +kernel : ∀ (t : Fin grid0.N) (k : Fin 32),
    (Scalar.addi (tB (grid0.coords t)) (Scalar.subi 31#32 (Scf.iv 0#32 1#32 k.val))).toInt
      = ((Gru.back (32 * t.val + k.val) : ℕ) : ℤ))

/-- Inside a block the forward states go on from the state before it. -/
theorem hF_apply (t : Fin cfg0.N) (h : Vec Ideal S64x128 .f32)
    (hh : ∀ i l, h (ix2 i l) = states m c 0 id (32 * t.val) i l) (k : ℕ) (hk : k ≤ 32) (i : Fin 64) (l : Fin 128) :
    hF (grid0.coords t) (iblk m c 0 t) (iblk m c 2 t) (iblk m c 3 t) (iblk m c 4 t) (iblk m c 5 t) (iblk m c 6 t) h k (ix2 i l)
      = states m c 0 id (32 * t.val + k) i l := by
  induction k generalizing i l with
  | zero => exact hh i l
  | succ k ih =>
    have hk' : k < k0_t1_loop.trips := by rw [trips_eq]; omega
    unfold hF at ih ⊢
    refine (congrFun (after_succ _ _ ⟨k, hk'⟩) _).trans ?_
    rw [stepF_apply, show 32 * t.val + (k + 1) = 32 * t.val + k + 1 from rfl]
    unfold states Gru.states
    rw [Gru.runK_succ, id]
    congr 1
    · funext q g; exact block3 m c t 0 q g
    · funext g; exact block5 m c t 0 0 g
    · exact timeF t ⟨k, by omega⟩
    · funext l; exact block6 m c t i l
    · funext g
      refine (xgF_apply _ _ _ _ _ _).trans ?_
      refine Eq.trans ?_ (Gru.proj_chunk _ _ _ ⟨t.val, point_lt t⟩ ⟨k, by omega⟩ i g).symm
      rw [block4]
      congr 1
      refine Finset.sum_congr rfl fun q _ => ?_
      rw [block0, block2]
    · funext l; exact ih (by omega) i l

/-- Inside a block the backward states go on from the state before it. -/
theorem hB_apply (t : Fin cfg0.N) (h : Vec Ideal S64x128 .f32)
    (hh : ∀ i l, h (ix2 i l) = states m c 1 Gru.back (32 * t.val) i l) (k : ℕ) (hk : k ≤ 32) (i : Fin 64) (l : Fin 128) :
    hB (grid0.coords t) (iblk m c 1 t) (iblk m c 2 t) (iblk m c 3 t) (iblk m c 4 t) (iblk m c 5 t) (iblk m c 6 t) h k (ix2 i l)
      = states m c 1 Gru.back (32 * t.val + k) i l := by
  induction k generalizing i l with
  | zero => exact hh i l
  | succ k ih =>
    have hk' : k < k0_t1_loop.trips := by rw [trips_eq]; omega
    have ht := point_lt t
    unfold hB at ih ⊢
    refine (congrFun (after_succ _ _ ⟨k, hk'⟩) _).trans ?_
    rw [stepB_apply, show 32 * t.val + (k + 1) = 32 * t.val + k + 1 from rfl]
    unfold states Gru.states
    rw [Gru.runK_succ]
    congr 1
    · funext q g; exact block3 m c t 1 q g
    · funext g; exact block5 m c t 1 0 g
    · exact timeB t ⟨k, by omega⟩
    · funext l; exact block6 m c t i l
    · funext g
      refine (xgB_apply _ _ _ _ _ _).trans ?_
      rw [show Gru.back (32 * t.val + k) = 32 * (7 - t.val) + (31 - k) by unfold Gru.back; omega]
      refine Eq.trans ?_ (Gru.proj_chunk _ _ _ ⟨7 - t.val, by omega⟩ ⟨31 - k, by omega⟩ i g).symm
      rw [block4]
      congr 1
      refine Finset.sum_congr rfl fun q _ => ?_
      rw [block1, block2]
    · funext l; exact ih (by omega) i l

theorem start_apply (i : Fin 64) (l : Fin 128) :
    k0_pay1 (F := Ideal) (ix2 i l) = 0 ∧ k0_pay2 (F := Ideal) (ix2 i l) = 0 := by
  unfold k0_pay1 k0_pay2
  constructor <;> pointwise

/-- The carried states before point `n` are those after `32 n` steps. -/
theorem carry_apply (n : ℕ) (hn : n ≤ cfg0.N) (i : Fin 64) (l : Fin 128) :
    (carry m c n hn).1 (ix2 i l) = states m c 0 id (32 * n) i l
      ∧ (carry m c n hn).2 (ix2 i l) = states m c 1 Gru.back (32 * n) i l := by
  induction n generalizing i l with
  | zero => exact ⟨(start_apply i l).1, (start_apply i l).2⟩
  | succ n ih =>
    have h := carry_succ m c ⟨n, hn⟩
    refine ⟨(congrFun (congrArg Prod.fst h) _).trans ?_, (congrFun (congrArg Prod.snd h) _).trans ?_⟩
    · exact hF_apply m c ⟨n, hn⟩ _ (fun i l => (ih (Nat.le_of_succ_le hn) i l).1) 32 le_rfl i l
    · exact hB_apply m c ⟨n, hn⟩ _ (fun i l => (ih (Nat.le_of_succ_le hn) i l).2) 32 le_rfl i l

/-- The forward output array: place `(n, t)` is the state after the step at time `32 n + t`; -/
def arrF : Vec Ideal S8x32x64x128 .f32 := fun j => states m c 0 id (32 * (j 0).val + (j 1).val + 1) (j 2) (j 3)

/-- the backward one: the state after the steps from time 255 down to `32 n + t`. -/
def arrB : Vec Ideal S8x32x64x128 .f32 := fun j => states m c 1 Gru.back (256 - (32 * (j 0).val + (j 1).val)) (j 2) (j 3)

theorem states_congr (d : Fin 2) (p : ℕ → ℕ) {n n' : ℕ} {i i' : Fin 64} {l l' : Fin 128} (hn : n = n') (hi : i = i')
    (hl : l = l') : states m c d p n i l = states m c d p n' i' l' := by subst hn hi hl; rfl

theorem arrF_eq : (dats m 0 c).arrAt 7 cfg0.N = arrF m c := by
  refine (dats m 0 c).arrAt_eq_of_covers 7 _ (by decide +kernel) fun t hf y => ?_
  have ht := point_lt t
  blk_simp
  rw [after0_7]
  have e := hF_apply m c t _ (fun i l => (carry_apply m c t.val (Nat.le_of_lt t.isLt) i l).1) ((y 1).val + 1) (by have : (y 1).val < 32 := (y 1).isLt; omega) (y 2) (y 3)
  refine e.trans ?_
  have e0 : (((win0_7.blk t).view.emb y) 0 : ℕ) = t.val := by
    have h0 : (y 0 : ℕ) < 1 := (y 0).isLt
    blk_simp [index7]
  have e1 : (((win0_7.blk t).view.emb y) 1 : ℕ) = y 1 := by blk_simp [index7]
  have h1 : (y 1 : ℕ) < 32 := (y 1).isLt
  refine states_congr m c _ _ ?_ (Fin.ext ?_) (Fin.ext ?_)
  · rw [e0, e1]; omega
  · blk_simp [index7]
  · blk_simp [index7]

theorem arrB_eq : (dats m 0 c).arrAt 8 cfg0.N = arrB m c := by
  refine (dats m 0 c).arrAt_eq_of_covers 8 _ (by decide +kernel) fun t hf y => ?_
  have ht := point_lt t
  blk_simp
  rw [after0_8]
  have e := hB_apply m c t _ (fun i l => (carry_apply m c t.val (Nat.le_of_lt t.isLt) i l).2) (31 - (y 1).val + 1) (by omega) (y 2) (y 3)
  refine e.trans ?_
  have e0 : (((win0_8.blk t).view.emb y) 0 : ℕ) = 7 - t.val := by
    have h0 : (y 0 : ℕ) < 1 := (y 0).isLt
    blk_simp [index8]
  have e1 : (((win0_8.blk t).view.emb y) 1 : ℕ) = y 1 := by blk_simp [index8]
  have h1 : (y 1 : ℕ) < 32 := (y 1).isLt
  refine states_congr m c _ _ ?_ (Fin.ext ?_) (Fin.ext ?_)
  · rw [e0, e1]; omega
  · blk_simp [index8]
  · blk_simp [index8]

end Cert.Kernel2Ideal.Layer
-- ==== Proof.RefB.lean ====
/- What the reference's loop leaves on extended reals: the states of the recurrence, in its own form of a step. -/
module

public import proofs.«01_k».proof.Proof.Gen.Reference2Ideal.Run
public import proofs.«01_k».proof.Proof.Gru
public import Idealize.ShloMosaic.Lib.Pointwise
public import Idealize.ShloMosaic.Lib.StableHlo.ReadAt

@[expose] public section

noncomputable section

namespace Cert.Reference2Ideal.Layer

open Idealize.ShloMosaic Idealize.ShloMosaic.TcCoe Cert.Reference2Ideal Cert.Reference2Ideal.Gen Cert.Reference2Ideal.Value
open Idealize.ShloMosaic.StableHlo

/-! ## Rows of an array by a computed index -/

/-- A slice of one row, cut out at a computed index `k` inside the array, is row `k`. -/
theorem slice_row {α : Type} {n a b : ℕ} (x : (⟨3, ![n, a, b]⟩ : Shape).Idx → α) (start : Fin 3 → ℤ) (k : Fin n)
    (h0 : start 0 = (k.val : ℤ)) (h1 : start 1 = 0) (h2 : start 2 = 0)
    (h : (⟨3, ![n, a, b]⟩ : Shape).Slices (fun _ => 0) ⟨3, ![1, a, b]⟩) (i : Fin a) (j : Fin b) :
    Host.dynamicSlice (s := ⟨3, ![n, a, b]⟩) ⟨3, ![1, a, b]⟩ x start h (ix3 0 i j) = x (ix3 k i j) := by
  have hk := k.isLt
  rw [Host.dynamicSlice_apply]
  have e0 := Host.clampedStart_of_le h.1 start 0 k.val h0 (by change k.val + 1 ≤ n; omega)
  have e1 := Host.clampedStart_of_le h.1 start 1 0 h1 (by change 0 + a ≤ a; omega)
  have e2 := Host.clampedStart_of_le h.1 start 2 0 h2 (by change 0 + b ≤ b; omega)
  congr 1
  funext d
  rw [Shape.Idx.norm_def]
  fin_cases d <;> apply Fin.ext
  · exact (congrArg (· + 0) e0)
  · exact (congrArg (· + i.val) e1).trans (Nat.zero_add _)
  · exact (congrArg (· + j.val) e2).trans (Nat.zero_add _)

/-- Writing one row at a computed index `k` inside the array replaces row `k` alone. -/
theorem update_row {α : Type} {n a b : ℕ} (x : (⟨3, ![n, a, b]⟩ : Shape).Idx → α)
    (u : (⟨3, ![1, a, b]⟩ : Shape).Idx → α) (start : Fin 3 → ℤ) (k : Fin n)
    (h0 : start 0 = (k.val : ℤ)) (h1 : start 1 = 0) (h2 : start 2 = 0)
    (h : (⟨3, ![n, a, b]⟩ : Shape).Slices (fun _ => 0) ⟨3, ![1, a, b]⟩) (r : Fin n) (i : Fin a) (j : Fin b) :
    Host.dynamicUpdateSlice x u start h (ix3 r i j) = if r = k then u (ix3 0 i j) else x (ix3 r i j) := by
  have hk := k.isLt
  rw [Host.dynamicUpdateSlice_apply]
  have e0 := Host.clampedStart_of_le h.1 start 0 k.val h0 (by change k.val + 1 ≤ n; omega)
  have e1 := Host.clampedStart_of_le h.1 start 1 0 h1 (by change 0 + a ≤ a; omega)
  have e2 := Host.clampedStart_of_le h.1 start 2 0 h2 (by change 0 + b ≤ b; omega)
  by_cases hr : r = k
  · subst hr
    rw [if_pos rfl, dif_pos]
    · congr 1
      funext d
      rw [Shape.Idx.norm_def]
      fin_cases d <;> apply Fin.ext
      · exact (congrArg (r.val - ·) e0).trans (Nat.sub_self _)
      · exact congrArg (i.val - ·) e1
      · exact congrArg (j.val - ·) e2
    · intro d
      fin_cases d
      · exact ⟨le_of_eq e0, lt_of_lt_of_eq (Nat.lt_succ_self _) (congrArg (· + 1) e0).symm⟩
      · exact ⟨(le_of_eq e1).trans (Nat.zero_le _), lt_of_lt_of_eq i.isLt ((congrArg (· + a) e1).trans (Nat.zero_add _)).symm⟩
      · exact ⟨(le_of_eq e2).trans (Nat.zero_le _), lt_of_lt_of_eq j.isLt ((congrArg (· + b) e2).trans (Nat.zero_add _)).symm⟩
  · rw [if_neg hr, dif_neg]
    intro hin
    have h3 : _ ≤ r.val ∧ r.val < _ + 1 := hin 0
    rw [e0] at h3
    exact hr (Fin.ext (by omega))

theorem select_at {s : Shape} {α : Type} {c : IVec s 1} {x y : s.Idx → α} {j : s.Idx} {c' : BitVec 1} {x' y' : α}
    (hc : c j = c') (hx : x j = x') (hy : y j = y') : select c x y j = Scalar.select c' x' y' := by
  subst hc hx hy; rfl

/-! ## One trip at a place -/

variable (V : Valuation τ sig (Elt Ideal)) (k : Fin 256)
  (hV : V (Proc.devRef .tc main_v32_6) = fun _ => BitVec.ofNat 32 k.val)

theorem toInt_ofNat : ∀ k : Fin 256, (BitVec.ofNat 32 k.val).toInt = (k.val : ℤ) := by decide +kernel

include hV in
theorem counter : BitVec.toInt (V (Proc.devRef .tc main_v32_6) (Shape.Idx.first h_S_)) = (k.val : ℤ) := by
  rw [hV]; exact toInt_ofNat k

include hV in
theorem xF (i : Fin 64) (g : Fin 384) :
    (res_main_while0b_v36 V (ix2 i g) : EReal) = V (Proc.devRef .tc main_v32_0) (ix3 k i g) := by
  unfold res_main_while0b_v36
  have e : ∀ X : Vec Ideal S1x64x384 .f32, shapeCast S64x384 X shapeCasts_S1x64x384_S64x384 (ix2 i g) = X (ix3 0 i g) := fun X => by pointwise
  exact (e _).trans (slice_row _ _ k (counter V k hV) rfl rfl _ i g)

include hV in
theorem xB (i : Fin 64) (g : Fin 384) :
    (res_main_while0b_v38 V (ix2 i g) : EReal) = V (Proc.devRef .tc main_v32_2) (ix3 k i g) := by
  unfold res_main_while0b_v38
  have e : ∀ X : Vec Ideal S1x64x384 .f32, shapeCast S64x384 X shapeCasts_S1x64x384_S64x384 (ix2 i g) = X (ix3 0 i g) := fun X => by pointwise
  exact (e _).trans (slice_row _ _ k (counter V k hV) rfl rfl _ i g)

/-- The recurrent part of the forward gates; -/
theorem gateF (i : Fin 64) (g : Fin 384) :
    (res_main_while0b_v46 V (ix2 i g) : EReal)
      = Gru.gate (fun q g => V (Proc.devRef .tc main_v32_4) (ix3 0 q g)) (fun g => V (Proc.devRef .tc main_v32_5) (ix3 0 0 g))
          (fun l => V (Proc.devRef .tc main_v32_7) (ix2 i l)) g := by
  unfold res_main_while0b_v46
  pointwise
  rfl

/-- of the backward ones. -/
theorem gateB (i : Fin 64) (g : Fin 384) :
    (res_main_while0b_v82 V (ix2 i g) : EReal)
      = Gru.gate (fun q g => V (Proc.devRef .tc main_v32_4) (ix3 1 q g)) (fun g => V (Proc.devRef .tc main_v32_5) (ix3 1 0 g))
          (fun l => V (Proc.devRef .tc main_v32_8) (ix2 i l)) g := by
  unfold res_main_while0b_v82
  pointwise
  rfl

theorem updateF (i : Fin 64) (l : Fin 128) :
    (res_main_while0b_v66 V (ix2 i l) : EReal)
      = Ideal.logistic (@HAdd.hAdd EReal EReal EReal _ (res_main_while0b_v36 V (ix2 i ⟨128 + l.val, by omega⟩))
          (res_main_while0b_v46 V (ix2 i ⟨128 + l.val, by omega⟩))) := by
  unfold res_main_while0b_v66
  pointwise
  rfl

theorem updateB (i : Fin 64) (l : Fin 128) :
    (res_main_while0b_v102 V (ix2 i l) : EReal)
      = Ideal.logistic (@HAdd.hAdd EReal EReal EReal _ (res_main_while0b_v38 V (ix2 i ⟨128 + l.val, by omega⟩))
          (res_main_while0b_v82 V (ix2 i ⟨128 + l.val, by omega⟩))) := by
  unfold res_main_while0b_v102
  pointwise
  rfl

/-- The mask bit of a place: whether the time `n` lies before the length. -/
def before (n : ℕ) (len : EReal) : BitVec 1 := BitVec.ofBool (decide ((((n : ℤ) : ℝ) : EReal) < len))

theorem select_before (n : ℕ) (len x y : EReal) :
    Scalar.select (before n len) x y = if (((n : ℤ) : ℝ) : EReal) < len then x else y := by
  unfold before Scalar.select
  by_cases h : (((n : ℤ) : ℝ) : EReal) < len
  · rw [if_pos h, decide_eq_true h]; rfl
  · rw [if_neg h, decide_eq_false h]; rfl

include hV in
/-- The new forward state of a trip. -/
theorem newF (n : ℕ) (len : Fin 64 → Fin 128 → EReal)
    (hm : ∀ i l, V (Proc.devRef .tc main_v32_1) (ix3 k i l) = before n (len i l)) (i : Fin 64) (l : Fin 128) :
    (res_main_while0b_v75 V (ix2 i l) : EReal)
      = Gru.stepR (fun q g => V (Proc.devRef .tc main_v32_4) (ix3 0 q g)) (fun g => V (Proc.devRef .tc main_v32_5) (ix3 0 0 g)) n
          (len i) (fun g => V (Proc.devRef .tc main_v32_0) (ix3 k i g)) (fun l => V (Proc.devRef .tc main_v32_7) (ix2 i l)) l := by
  unfold res_main_while0b_v75
  have e : ∀ X : IVec S1x64x128 1, shapeCast S64x128 X shapeCasts_S1x64x128_S64x128 (ix2 i l) = X (ix3 0 i l) := fun X => by pointwise
  refine (select_at (x' := (1 - Gru.update (fun q g => V (Proc.devRef .tc main_v32_4) (ix3 0 q g)) (fun g => V (Proc.devRef .tc main_v32_5) (ix3 0 0 g)) (fun g => V (Proc.devRef .tc main_v32_0) (ix3 k i g)) (fun l => V (Proc.devRef .tc main_v32_7) (ix2 i l)) l)
      * Gru.candidate (fun q g => V (Proc.devRef .tc main_v32_4) (ix3 0 q g)) (fun g => V (Proc.devRef .tc main_v32_5) (ix3 0 0 g)) (fun g => V (Proc.devRef .tc main_v32_0) (ix3 k i g)) (fun l => V (Proc.devRef .tc main_v32_7) (ix2 i l)) l
      + Gru.update (fun q g => V (Proc.devRef .tc main_v32_4) (ix3 0 q g)) (fun g => V (Proc.devRef .tc main_v32_5) (ix3 0 0 g)) (fun g => V (Proc.devRef .tc main_v32_0) (ix3 k i g)) (fun l => V (Proc.devRef .tc main_v32_7) (ix2 i l)) l * V (Proc.devRef .tc main_v32_7) (ix2 i l))
    ((e _).trans ((slice_row _ _ k (counter V k hV) rfl rfl _ i l).trans (hm i l))) ?_ rfl).trans (select_before _ _ _ _)
  pointwise
  rw [updateF, xF V k hV, xF V k hV, xF V k hV, gateF, gateF, gateF]
  rfl

include hV in
/-- The new backward state of a trip. -/
theorem newB (n : ℕ) (len : Fin 64 → Fin 128 → EReal)
    (hm : ∀ i l, V (Proc.devRef .tc main_v32_3) (ix3 k i l) = before n (len i l)) (i : Fin 64) (l : Fin 128) :
    (res_main_while0b_v111 V (ix2 i l) : EReal)
      = Gru.stepR (fun q g => V (Proc.devRef .tc main_v32_4) (ix3 1 q g)) (fun g => V (Proc.devRef .tc main_v32_5) (ix3 1 0 g)) n
          (len i) (fun g => V (Proc.devRef .tc main_v32_2) (ix3 k i g)) (fun l => V (Proc.devRef .tc main_v32_8) (ix2 i l)) l := by
  unfold res_main_while0b_v111
  have e : ∀ X : IVec S1x64x128 1, shapeCast S64x128 X shapeCasts_S1x64x128_S64x128 (ix2 i l) = X (ix3 0 i l) := fun X => by pointwise
  refine (select_at (x' := (1 - Gru.update (fun q g => V (Proc.devRef .tc main_v32_4) (ix3 1 q g)) (fun g => V (Proc.devRef .tc main_v32_5) (ix3 1 0 g)) (fun g => V (Proc.devRef .tc main_v32_2) (ix3 k i g)) (fun l => V (Proc.devRef .tc main_v32_8) (ix2 i l)) l)
      * Gru.candidate (fun q g => V (Proc.devRef .tc main_v32_4) (ix3 1 q g)) (fun g => V (Proc.devRef .tc main_v32_5) (ix3 1 0 g)) (fun g => V (Proc.devRef .tc main_v32_2) (ix3 k i g)) (fun l => V (Proc.devRef .tc main_v32_8) (ix2 i l)) l
      + Gru.update (fun q g => V (Proc.devRef .tc main_v32_4) (ix3 1 q g)) (fun g => V (Proc.devRef .tc main_v32_5) (ix3 1 0 g)) (fun g => V (Proc.devRef .tc main_v32_2) (ix3 k i g)) (fun l => V (Proc.devRef .tc main_v32_8) (ix2 i l)) l * V (Proc.devRef .tc main_v32_8) (ix2 i l))
    ((e _).trans ((slice_row _ _ k (counter V k hV) rfl rfl _ i l).trans (hm i l))) ?_ rfl).trans (select_before _ _ _ _)
  pointwise
  rw [updateB, xB V k hV, xB V k hV, xB V k hV, gateB, gateB, gateB]
  rfl

include hV in
/-- A trip writes its new forward state to row `k` of the forward results; -/
theorem rowF (r : Fin 256) (i : Fin 64) (l : Fin 128) :
    (step_main_v32_9 V (ix3 r i l) : EReal)
      = if r = k then (res_main_while0b_v75 V (ix2 i l) : EReal) else V (Proc.devRef .tc main_v32_9) (ix3 r i l) := by
  unfold step_main_v32_9
  dsimp only [id]
  refine (update_row _ _ _ k (counter V k hV) rfl rfl _ r i l).trans ?_
  congr 1
  pointwise

include hV in
/-- and its new backward state to row `k` of the backward ones. -/
theorem rowB (r : Fin 256) (i : Fin 64) (l : Fin 128) :
    (step_main_v32_10 V (ix3 r i l) : EReal)
      = if r = k then (res_main_while0b_v111 V (ix2 i l) : EReal) else V (Proc.devRef .tc main_v32_10) (ix3 r i l) := by
  unfold step_main_v32_10
  dsimp only [id]
  refine (update_row _ _ _ k (counter V k hV) rfl rfl _ r i l).trans ?_
  congr 1
  pointwise

/-! ## The loop's entry -/

variable (m : (ℓ : Loc nD τ sig) → Buf (Elt Ideal) ℓ) (c : Dev nD)

/-- The states of direction `d` over the arguments that device `c` holds. -/
def states (d : Fin 2) (p : ℕ → ℕ) : ℕ → Fin 64 → Fin 128 → EReal :=
  Gru.statesR (I := 256) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) d p

/-- The input's part of the gates. -/
def inputs (d : Fin 2) : ℕ → Fin 64 → Fin 384 → EReal :=
  Gru.proj (I := 256) (fun n t i q => m ((c.tc : Thread nD τ).loc main_arg0) (ix4 n t i q))
    (fun q g => m ((c.tc : Thread nD τ).loc main_arg1) (ix3 d q g)) (fun g => m ((c.tc : Thread nD τ).loc main_arg3) (ix3 d 0 g))

/-- The lengths. -/
def lens (i : Fin 64) (l : Fin 128) : EReal := m ((c.tc : Thread nD τ).loc main_arg5) (ix2 i l)

theorem chunk_of (s : ℕ) (hs : s < 256) : (⟨s / 32, by omega⟩ : Fin 8) = Fin.ofNat 8 (s / 32) :=
  Fin.ext (by simp [Fin.ofNat]; omega)
theorem row_of (s : ℕ) : (⟨s % 32, by omega⟩ : Fin 32) = Fin.ofNat 32 s := Fin.ext (by simp [Fin.ofNat])

theorem entry0 (s : Fin 256) (i : Fin 64) (g : Fin 384) :
    (entryContents preI m c (Proc.devRef .tc main_v32_0) (ix3 s i g) : EReal) = inputs m c 0 s.val i g := by
  simp only [entryContents, afterL_cons, afterL_nil]
  after_reads_simp
  dsimp only [id]
  pointwise
  unfold inputs Gru.proj
  rw [← chunk_of s.val s.isLt, ← row_of s.val]

theorem entry2 (s : Fin 256) (i : Fin 64) (g : Fin 384) :
    (entryContents preI m c (Proc.devRef .tc main_v32_2) (ix3 s i g) : EReal) = inputs m c 1 (Gru.back s.val) i g := by
  have hr : (s.rev : ℕ) = Gru.back s.val := by unfold Gru.back; rw [Fin.val_rev]; omega
  simp only [entryContents, afterL_cons, afterL_nil]
  after_reads_simp
  dsimp only [id]
  pointwise
  unfold inputs Gru.proj
  rw [← hr, ← chunk_of s.rev.val s.rev.isLt, ← row_of s.rev.val]
  rfl

theorem entry1 (s : Fin 256) (i : Fin 64) (l : Fin 128) :
    entryContents preI m c (Proc.devRef .tc main_v32_1) (ix3 s i l) = before s.val (lens m c i l) := by
  simp only [entryContents, afterL_cons, afterL_nil]
  after_reads_simp
  dsimp only [id]
  pointwise
  unfold before lens
  rw [← toInt_ofNat s]
  rfl

theorem entry3 (s : Fin 256) (i : Fin 64) (l : Fin 128) :
    entryContents preI m c (Proc.devRef .tc main_v32_3) (ix3 s i l) = before (Gru.back s.val) (lens m c i l) := by
  have hr : (s.rev : ℕ) = Gru.back s.val := by unfold Gru.back; rw [Fin.val_rev]; omega
  simp only [entryContents, afterL_cons, afterL_nil]
  after_reads_simp
  dsimp only [id]
  pointwise
  unfold before lens
  rw [← hr, ← toInt_ofNat s.rev]
  rfl

theorem entry4 (d : Fin 2) (q : Fin 128) (g : Fin 384) :
    (entryContents preI m c (Proc.devRef .tc main_v32_4) (ix3 d q g) : EReal) = m ((c.tc : Thread nD τ).loc main_arg2) (ix3 d q g) := by
  simp only [entryContents, afterL_cons, afterL_nil]
  after_reads_simp
  rfl

theorem entry5 (d : Fin 2) (g : Fin 384) :
    (entryContents preI m c (Proc.devRef .tc main_v32_5) (ix3 d 0 g) : EReal) = m ((c.tc : Thread nD τ).loc main_arg4) (ix3 d 0 g) := by
  simp only [entryContents, afterL_cons, afterL_nil]
  after_reads_simp
  rfl

theorem entry7 (i : Fin 64) (l : Fin 128) :
    (entryContents preI m c (Proc.devRef .tc main_v32_7) (ix2 i l) : EReal) = (0 : EReal) := by
  simp only [entryContents, afterL_cons, afterL_nil]
  after_reads_simp
  dsimp only [id]
  pointwise

theorem entry8 (i : Fin 64) (l : Fin 128) :
    (entryContents preI m c (Proc.devRef .tc main_v32_8) (ix2 i l) : EReal) = (0 : EReal) := by
  simp only [entryContents, afterL_cons, afterL_nil]
  after_reads_simp
  dsimp only [id]
  pointwise

/-! ## The loop -/

/-- What the carried buffers hold after `n` trips from the entry `E`. -/
structure Inv (E V : Valuation τ sig (Elt Ideal)) (n : ℕ) : Prop where
  k0 : V (Proc.devRef .tc main_v32_0) = E (Proc.devRef .tc main_v32_0)
  k1 : V (Proc.devRef .tc main_v32_1) = E (Proc.devRef .tc main_v32_1)
  k2 : V (Proc.devRef .tc main_v32_2) = E (Proc.devRef .tc main_v32_2)
  k3 : V (Proc.devRef .tc main_v32_3) = E (Proc.devRef .tc main_v32_3)
  k4 : V (Proc.devRef .tc main_v32_4) = E (Proc.devRef .tc main_v32_4)
  k5 : V (Proc.devRef .tc main_v32_5) = E (Proc.devRef .tc main_v32_5)
  count : V (Proc.devRef .tc main_v32_6) = fun _ => BitVec.ofNat 32 n
  stateF : ∀ i l, (V (Proc.devRef .tc main_v32_7) (ix2 i l) : EReal) = states m c 0 id n i l
  stateB : ∀ i l, (V (Proc.devRef .tc main_v32_8) (ix2 i l) : EReal) = states m c 1 Gru.back n i l
  outF : ∀ (s : Fin 256) i l, s.val < n → (V (Proc.devRef .tc main_v32_9) (ix3 s i l) : EReal) = states m c 0 id (s.val + 1) i l
  outB : ∀ (s : Fin 256) i l, s.val < n →
    (V (Proc.devRef .tc main_v32_10) (ix3 s i l) : EReal) = states m c 1 Gru.back (s.val + 1) i l

theorem inv_entry : Inv m c (entryContents preI m c) (entryContents preI m c) 0 where
  k0 := rfl
  k1 := rfl
  k2 := rfl
  k3 := rfl
  k4 := rfl
  k5 := rfl
  count := ctr_entry m c
  stateF i l := entry7 m c i l
  stateB i l := entry8 m c i l
  outF s i l h := absurd h (Nat.not_lt_zero _)
  outB s i l h := absurd h (Nat.not_lt_zero _)

theorem inv_step (V : Valuation τ sig (Elt Ideal)) (n : ℕ) (hn : n < 256) (h : Inv m c (entryContents preI m c) V n) :
    Inv m c (entryContents preI m c) (STEP V) (n + 1) := by
  have hF : ∀ i l, (res_main_while0b_v75 V (ix2 i l) : EReal) = states m c 0 id (n + 1) i l := fun i l => by
    refine (newF V ⟨n, hn⟩ h.count n (lens m c) (fun i l => ?_) i l).trans ?_
    · rw [h.k1]; exact entry1 m c ⟨n, hn⟩ i l
    · unfold states Gru.statesR
      rw [Gru.runR_succ]
      congr 1
      · funext q g; rw [h.k4]; exact entry4 m c 0 q g
      · funext g; rw [h.k5]; exact entry5 m c 0 g
      · funext g; rw [h.k0]; exact entry0 m c ⟨n, hn⟩ i g
      · funext l; exact h.stateF i l
  have hB : ∀ i l, (res_main_while0b_v111 V (ix2 i l) : EReal) = states m c 1 Gru.back (n + 1) i l := fun i l => by
    refine (newB V ⟨n, hn⟩ h.count (Gru.back n) (lens m c) (fun i l => ?_) i l).trans ?_
    · rw [h.k3]; exact entry3 m c ⟨n, hn⟩ i l
    · unfold states Gru.statesR
      rw [Gru.runR_succ]
      congr 1
      · funext q g; rw [h.k4]; exact entry4 m c 1 q g
      · funext g; rw [h.k5]; exact entry5 m c 1 g
      · funext g; rw [h.k2]; exact entry2 m c ⟨n, hn⟩ i g
      · funext l; exact h.stateB i l
  exact {
    k0 := (STEP_main_v32_0 V).trans h.k0
    k1 := (STEP_main_v32_1 V).trans h.k1
    k2 := (STEP_main_v32_2 V).trans h.k2
    k3 := (STEP_main_v32_3 V).trans h.k3
    k4 := (STEP_main_v32_4 V).trans h.k4
    k5 := (STEP_main_v32_5 V).trans h.k5
    count := by
      rw [STEP_main_v32_6]
      unfold step_main_v32_6
      dsimp only [id]
      rw [h.count]
      funext j
      exact (BitVec.ofNat_add n 1).symm
    stateF := fun i l => by rw [STEP_main_v32_7]; exact hF i l
    stateB := fun i l => by rw [STEP_main_v32_8]; exact hB i l
    outF := fun s i l hs => by
      rw [STEP_main_v32_9, rowF V ⟨n, hn⟩ h.count]
      by_cases e : s = ⟨n, hn⟩
      · subst e; rw [if_pos rfl]; exact hF i l
      · rw [if_neg e]
        exact h.outF s i l (by have : s.val ≠ n := fun h' => e (Fin.ext h'); omega)
    outB := fun s i l hs => by
      rw [STEP_main_v32_10, rowB V ⟨n, hn⟩ h.count]
      by_cases e : s = ⟨n, hn⟩
      · subst e; rw [if_pos rfl]; exact hB i l
      · rw [if_neg e]
        exact h.outB s i l (by have : s.val ≠ n := fun h' => e (Fin.ext h'); omega) }

theorem inv (n : ℕ) (hn : n ≤ 256) : Inv m c (entryContents preI m c) (STEP^[n] (entryContents preI m c)) n := by
  induction n with
  | zero => exact inv_entry m c
  | succ n ih =>
    rw [Function.iterate_succ_apply']
    exact inv_step m c _ n hn (ih (by omega))

/-! ## The results -/

theorem resultF (n : Fin 8) (t : Fin 32) (i : Fin 64) (l : Fin 128) :
    (out_main_v33 (STEP^[256] (entryContents preI m c)) (ix4 n t i l) : EReal)
      = states m c 0 id (32 * n.val + t.val + 1) i l := by
  unfold out_main_v33
  pointwise
  refine ((inv m c 256 le_rfl).outF _ i l (Fin.isLt _)).trans ?_
  rw [show 32 * n.val + t.val = n.val * 32 + t.val by omega]

theorem resultB (n : Fin 8) (t : Fin 32) (i : Fin 64) (l : Fin 128) :
    (out_main_v35 (STEP^[256] (entryContents preI m c)) (ix4 n t i l) : EReal)
      = states m c 1 Gru.back (256 - (32 * n.val + t.val)) i l := by
  unfold out_main_v35
  pointwise
  refine ((inv m c 256 le_rfl).outB _ i l (Fin.isLt _)).trans ?_
  congr 1
  show (Fin.rev _ : Fin 256).val + 1 = _
  rw [Fin.val_rev]
  dsimp only
  omega

end Cert.Reference2Ideal.Layer
-- ==== Proof.MatchB.lean ====
/- The layer and its reference give the same results on extended reals. -/
module

public import proofs.«01_k».proof.Defs
public import proofs.«01_k».proof.Proof.ValueB
public import proofs.«01_k».proof.Proof.RefB
public import Idealize.ShloMosaic.Lib.QuiescentFlight

@[expose] public section

noncomputable section

namespace Cert.Kernel2Ideal.Layer

open Idealize.ShloMosaic Idealize.ShloMosaic.TcCoe Idealize.SL.Sem Cert.Kernel2Ideal Cert.Kernel2Ideal.Gen

/-- The run of the layer: the two output arrays hold the states of the two directions, and the arguments are unchanged. -/
theorem run_states (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = arrF m c
      ∧ r.2.mem ((c : Thread nD τ).loc main_v0_1) = arrB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨((h c).1 7).trans (arrF_eq m c), ((h c).1 8).trans (arrB_eq m c), ?_, ?_, ?_, ?_, ?_, ?_⟩) (run_main m ρ)
  · exact ((h c).1 1).trans (((dats m 0 c).arrAt_in 1 rfl _).trans ((A_eq m c 1).trans (V_main_arg0 m c)))
  · exact ((h c).1 2).trans (((dats m 0 c).arrAt_in 2 rfl _).trans ((A_eq m c 2).trans (V_main_arg1 m c)))
  · exact ((h c).1 3).trans (((dats m 0 c).arrAt_in 3 rfl _).trans ((A_eq m c 3).trans (V_main_arg2 m c)))
  · exact ((h c).1 4).trans (((dats m 0 c).arrAt_in 4 rfl _).trans ((A_eq m c 4).trans (V_main_arg3 m c)))
  · exact ((h c).1 5).trans (((dats m 0 c).arrAt_in 5 rfl _).trans ((A_eq m c 5).trans (V_main_arg4 m c)))
  · exact ((h c).1 6).trans (((dats m 0 c).arrAt_in 6 rfl _).trans ((A_eq m c 6).trans (V_main_arg5 m c)))

end Cert.Kernel2Ideal.Layer

namespace Cert.Reference2Ideal.Layer

open Idealize.ShloMosaic Idealize.SL.Sem

/-- The reference terminates, keeps its arguments and leaves no semaphore raised. -/
theorem frame : Cert.quiescent_Reference2Ideal := fun m g _ =>
  (θ_run Cert.Reference2Ideal.defs _ _).mono
    (fun r h => ⟨fun c => (h c).2.2, Idealize.ShloMosaic.sem_eq_zero_of_no_sems (by decide) r.2⟩)
    (Cert.Reference2Ideal.Value.run m g)

/-- From memories that agree on the arguments both programs end with the same results. -/
theorem agree : Cert.algebraic_Kernel2Ideal_Reference2Ideal := by
  intro m g m' g' _ hm
  refine ⟨fun c => Cert.Kernel2Ideal.Layer.arrF m c, fun c => Cert.Kernel2Ideal.Layer.arrB m c,
    Cert.Kernel2Ideal.Layer.run_states m g, ?_⟩
  refine (θ_run Cert.Reference2Ideal.defs _ _).mono (fun r h c => ?_) (Cert.Reference2Ideal.Value.run m' g')
  have e : ∀ d p n, states m' c d p n = Cert.Kernel2Ideal.Layer.states m c d p n := fun d p n => by
    obtain ⟨h0, h1, h2, h3, h4, h5⟩ := hm c
    unfold states Cert.Kernel2Ideal.Layer.states
    rw [Gru.states_eq]
    erw [h0, h1, h2, h3, h4, h5]
  refine ⟨(h c).1.trans ?_, (h c).2.1.trans ?_, (h c).2.2⟩
  · funext j
    obtain ⟨j0, j1, j2, j3, rfl⟩ : ∃ a b i l, j = ix4 a b i l := ⟨j 0, j 1, j 2, j 3, eq_ix4 j⟩
    exact (resultF m' c j0 j1 j2 j3).trans (congrFun (congrFun (e _ _ _) _) _)
  · funext j
    obtain ⟨j0, j1, j2, j3, rfl⟩ : ∃ a b i l, j = ix4 a b i l := ⟨j 0, j 1, j 2, j 3, eq_ix4 j⟩
    exact (resultB m' c j0 j1 j2 j3).trans (congrFun (congrFun (e _ _ _) _) _)

end Cert.Reference2Ideal.Layer
-- ==== Proof.Gather.lean ====
module

public import Idealize.ShloMosaic.PureOps.Dims
public import Idealize.ShloMosaic.PureOps.ShapeOps
public import Idealize.ShloMosaic.Lib.Pointwise

/-!
# A gather of whole rows, read at an index

Both programs of the character convolution look rows up in tables by integer words.
`row` is the row that a word selects: the word as a signed integer, moved to the nearest row that exists.
-/

@[expose] public section
noncomputable section
namespace Cert.Conv
open Idealize.ShloMosaic

/-- The row that the index word `i` selects in a table of `n + 1` rows. -/
def row (n : Nat) (i : BitVec 32) : Fin (n + 1) := ⟨min i.toInt.toNat n, by omega⟩

/-- A gather of rows by a matrix of words, read at an index. -/
theorem gather_rows3 {α : Type} {N A B C : Nat}
    (d : GatherDims ⟨2, ![N + 1, C]⟩ ⟨3, ![A, B, 1]⟩ ⟨3, ![A, B, C]⟩)
    (ho : d.offsetDims = [2]) (hc : d.collapsedSliceDims = [0]) (hob : d.operandBatchingDims = [])
    (hsb : d.startIndicesBatchingDims = []) (hm : d.startIndexMap = [0]) (hv : d.indexVectorDim = 2)
    (hs : d.sliceSizes = ![1, C])
    (x : (⟨2, ![N + 1, C]⟩ : Shape).Idx → α) (idx : IVec ⟨3, ![A, B, 1]⟩ 32) (a : Fin A) (b : Fin B) (l : Fin C) :
    Host.gather d x idx (ix3 a b l) = x (ix2 (row N (idx (ix3 a b 0))) l) := by
  obtain ⟨_, _, _, _, _, _, _, wf⟩ := d
  dsimp only at ho hc hob hsb hm hv hs
  subst ho hc hob hsb hm hv hs
  have hsi : GatherDims.siIdx (s := ⟨2, ![N + 1, C]⟩) (si := ⟨3, ![A, B, 1]⟩) (t := ⟨3, ![A, B, C]⟩) ⟨[2], [0], [], [], [0], 2, ![1, C], wf⟩ (ix3 a b l) ⟨0, Nat.one_pos⟩ = ix3 a b 0 := by
    funext k
    match k with
    | ⟨0, _⟩ => rfl
    | ⟨1, _⟩ => rfl
    | ⟨2, _⟩ => rfl
  unfold Host.gather
  congr 1
  funext k
  apply Fin.ext
  match k with
  | ⟨0, _⟩ =>
    show min (idx (GatherDims.siIdx (s := ⟨2, ![N + 1, C]⟩) (si := ⟨3, ![A, B, 1]⟩) (t := ⟨3, ![A, B, C]⟩) ⟨[2], [0], [], [], [0], 2, ![1, C], wf⟩ (ix3 a b l) ⟨0, Nat.one_pos⟩)).toInt.toNat N + 0 + 0
      = min (idx (ix3 a b 0)).toInt.toNat N
    rw [hsi]
    rfl
  | ⟨1, _⟩ =>
    show 0 + 0 + l.val = l.val
    omega

/-- A gather of rows by a three-axis array of words, read at an index. -/
theorem gather_rows4 {α : Type} {N A B C D : Nat}
    (d : GatherDims ⟨2, ![N + 1, D]⟩ ⟨4, ![A, B, C, 1]⟩ ⟨4, ![A, B, C, D]⟩)
    (ho : d.offsetDims = [3]) (hc : d.collapsedSliceDims = [0]) (hob : d.operandBatchingDims = [])
    (hsb : d.startIndicesBatchingDims = []) (hm : d.startIndexMap = [0]) (hv : d.indexVectorDim = 3)
    (hs : d.sliceSizes = ![1, D])
    (x : (⟨2, ![N + 1, D]⟩ : Shape).Idx → α) (idx : IVec ⟨4, ![A, B, C, 1]⟩ 32) (a : Fin A) (b : Fin B) (c : Fin C)
    (l : Fin D) :
    Host.gather d x idx (ix4 a b c l) = x (ix2 (row N (idx (ix4 a b c 0))) l) := by
  obtain ⟨_, _, _, _, _, _, _, wf⟩ := d
  dsimp only at ho hc hob hsb hm hv hs
  subst ho hc hob hsb hm hv hs
  have hsi : GatherDims.siIdx (s := ⟨2, ![N + 1, D]⟩) (si := ⟨4, ![A, B, C, 1]⟩)
      (t := ⟨4, ![A, B, C, D]⟩) ⟨[3], [0], [], [], [0], 3, ![1, D], wf⟩ (ix4 a b c l) ⟨0, Nat.one_pos⟩ = ix4 a b c 0 := by
    funext k
    match k with
    | ⟨0, _⟩ => rfl
    | ⟨1, _⟩ => rfl
    | ⟨2, _⟩ => rfl
    | ⟨3, _⟩ => rfl
  unfold Host.gather
  congr 1
  funext k
  apply Fin.ext
  match k with
  | ⟨0, _⟩ =>
    show min (idx (GatherDims.siIdx (s := ⟨2, ![N + 1, D]⟩) (si := ⟨4, ![A, B, C, 1]⟩)
      (t := ⟨4, ![A, B, C, D]⟩) ⟨[3], [0], [], [], [0], 3, ![1, D], wf⟩ (ix4 a b c l) ⟨0, Nat.one_pos⟩)).toInt.toNat N + 0 + 0
      = min (idx (ix4 a b c 0)).toInt.toNat N
    rw [hsi]
    rfl
  | ⟨1, _⟩ =>
    show 0 + 0 + l.val = l.val
    omega

/-- The same with the table and the word of the row known. -/
theorem gather_rows3_of {α : Type} {N A B C : Nat}
    (d : GatherDims ⟨2, ![N + 1, C]⟩ ⟨3, ![A, B, 1]⟩ ⟨3, ![A, B, C]⟩)
    (ho : d.offsetDims = [2]) (hc : d.collapsedSliceDims = [0]) (hob : d.operandBatchingDims = [])
    (hsb : d.startIndicesBatchingDims = []) (hm : d.startIndexMap = [0]) (hv : d.indexVectorDim = 2)
    (hs : d.sliceSizes = ![1, C])
    (x : (⟨2, ![N + 1, C]⟩ : Shape).Idx → α) (idx : IVec ⟨3, ![A, B, 1]⟩ 32) (a : Fin A) (b : Fin B) (l : Fin C)
    (T : Fin (N + 1) → Fin C → α) (i : BitVec 32) (hx : ∀ r o, x (ix2 r o) = T r o) (hi : idx (ix3 a b 0) = i) :
    Host.gather d x idx (ix3 a b l) = T (row N i) l := by
  rw [gather_rows3 d ho hc hob hsb hm hv hs, hx, hi]

theorem gather_rows4_of {α : Type} {N A B C D : Nat}
    (d : GatherDims ⟨2, ![N + 1, D]⟩ ⟨4, ![A, B, C, 1]⟩ ⟨4, ![A, B, C, D]⟩)
    (ho : d.offsetDims = [3]) (hc : d.collapsedSliceDims = [0]) (hob : d.operandBatchingDims = [])
    (hsb : d.startIndicesBatchingDims = []) (hm : d.startIndexMap = [0]) (hv : d.indexVectorDim = 3)
    (hs : d.sliceSizes = ![1, D])
    (x : (⟨2, ![N + 1, D]⟩ : Shape).Idx → α) (idx : IVec ⟨4, ![A, B, C, 1]⟩ 32) (a : Fin A) (b : Fin B) (c : Fin C)
    (l : Fin D) (T : Fin (N + 1) → Fin D → α) (i : BitVec 32) (hx : ∀ r o, x (ix2 r o) = T r o)
    (hi : idx (ix4 a b c 0) = i) :
    Host.gather d x idx (ix4 a b c l) = T (row N i) l := by
  rw [gather_rows4 d ho hc hob hsb hm hv hs, hx, hi]

end Cert.Conv
-- ==== Proof.Conv.lean ====
module

public import Idealize.ShloMosaic.Lib.Pointwise
public import Mathlib.Algebra.BigOperators.Fin

/-!
# A convolution over sixteen characters, as three shifted products and as one banded matrix

A word is sixteen characters of thirty numbers each. `padded` lays a row of zeros before and after them,
`conv` is the sum over three neighbouring characters, and `best` the greatest value, cut off at zero, over the
sixteen positions.

One way to compute `conv` is a product of all 480 numbers of the word with a banded matrix, whose entry is a
weight where the two characters are neighbours and zero elsewhere. `band_sum` says that this is the same sum,
and `tree_eq_sup` that a balanced tree of maxima is the greatest of sixteen values.
-/

@[expose] public section
noncomputable section
namespace Cert.Conv
open Idealize.ShloMosaic

/-- Character `r` of the word with a row of zeros before it and one after it. -/
def padded (x : Fin 16 → Fin 30 → EReal) (r : ℕ) (i : Fin 30) : EReal :=
  if h : 1 ≤ r ∧ r < 17 then x ⟨r - 1, by omega⟩ i else 0

/-- The convolution at position `t` and output channel `o`. -/
def conv (x : Fin 16 → Fin 30 → EReal) (w : Fin 30 → Fin 30 → Fin 3 → EReal) (b : Fin 30 → EReal) (t : Fin 16)
    (o : Fin 30) : EReal :=
  ((∑ i, padded x t.val i * w o i 0) + (∑ i, padded x (t.val + 1) i * w o i 1) + (∑ i, padded x (t.val + 2) i * w o i 2))
    + b o

/-- The greatest value of output channel `o`, each value cut off at zero. -/
def best (x : Fin 16 → Fin 30 → EReal) (w : Fin 30 → Fin 30 → Fin 3 → EReal) (b : Fin 30 → EReal) (o : Fin 30) : EReal :=
  Finset.univ.sup fun t => max (conv x w b t o) 0

/-- A sum over 480 numbers, thirty at a time. -/
theorem sum_480 (f : Fin 480 → EReal) :
    ∑ q, f q = ∑ t : Fin 16, ∑ i : Fin 30, f ⟨t.val * 30 + i.val, by omega⟩ := by
  rw [← Finset.sum_product', Finset.univ_product_univ]
  refine (Fintype.sum_equiv (finProdFinEquiv (m := 16) (n := 30)) _ _ fun p => ?_).symm
  congr 1
  apply Fin.ext
  show p.1.val * 30 + p.2.val = p.2.val + 30 * p.1.val
  omega

/-- The character `a` contributes to the character just after it. -/
theorem sum_before (g : Fin 16 → EReal) (t : ℕ) (ht : t < 16) :
    ∑ a : Fin 16, (if a.val + 1 = t then g a else 0) = if h : 1 ≤ t ∧ t < 17 then g ⟨t - 1, by omega⟩ else 0 := by
  by_cases h : 1 ≤ t ∧ t < 17
  · rw [dif_pos h, Finset.sum_eq_single ⟨t - 1, by omega⟩]
    · exact if_pos (by show t - 1 + 1 = t; omega)
    · intro a _ ha
      exact if_neg fun e => ha (Fin.ext (by show a.val = t - 1; omega))
    · exact fun h => absurd (Finset.mem_univ _) h
  · rw [dif_neg h]
    exact Finset.sum_eq_zero fun a _ => if_neg (by omega)

/-- The character `a` contributes to itself. -/
theorem sum_at (g : Fin 16 → EReal) (t : ℕ) (ht : t < 16) :
    ∑ a : Fin 16, (if a.val = t then g a else 0) = if h : 1 ≤ t + 1 ∧ t + 1 < 17 then g ⟨t + 1 - 1, by omega⟩ else 0 := by
  rw [dif_pos (by omega), Finset.sum_eq_single ⟨t + 1 - 1, by omega⟩]
  · exact if_pos (by show t + 1 - 1 = t; omega)
  · intro a _ ha
    exact if_neg fun e => ha (Fin.ext (by show a.val = t + 1 - 1; omega))
  · exact fun h => absurd (Finset.mem_univ _) h

/-- The character `a` contributes to the character just before it. -/
theorem sum_after (g : Fin 16 → EReal) (t : ℕ) (ht : t < 16) :
    ∑ a : Fin 16, (if a.val = t + 1 then g a else 0) = if h : 1 ≤ t + 2 ∧ t + 2 < 17 then g ⟨t + 2 - 1, by omega⟩ else 0 := by
  by_cases h : 1 ≤ t + 2 ∧ t + 2 < 17
  · rw [dif_pos h, Finset.sum_eq_single ⟨t + 2 - 1, by omega⟩]
    · exact if_pos (by show t + 2 - 1 = t + 1; omega)
    · intro a _ ha
      exact if_neg fun e => ha (Fin.ext (by show a.val = t + 2 - 1; omega))
    · exact fun h => absurd (Finset.mem_univ _) h
  · rw [dif_neg h]
    exact Finset.sum_eq_zero fun a _ => if_neg (by omega)

/-- The entry of the banded matrix between character `a` and character `t`: the weight of their distance. -/
def bandEntry (w : Fin 3 → EReal) (a t : ℕ) : EReal :=
  (if a + 1 = t then w 0 else 0) + (if a = t then w 1 else 0) + (if a = t + 1 then w 2 else 0)

theorem mul_bandEntry (x : EReal) (w : Fin 3 → EReal) (a t : ℕ) :
    x * bandEntry w a t
      = (if a + 1 = t then x * w 0 else 0) + (if a = t then x * w 1 else 0) + (if a = t + 1 then x * w 2 else 0) := by
  unfold bandEntry
  by_cases h0 : a + 1 = t
  · rw [if_pos h0, if_neg (by omega), if_neg (by omega), if_pos h0, if_neg (by omega), if_neg (by omega)]
    simp only [add_zero]
  by_cases h1 : a = t
  · rw [if_neg h0, if_pos h1, if_neg (by omega), if_neg h0, if_pos h1, if_neg (by omega)]
    simp only [add_zero, zero_add]
  by_cases h2 : a = t + 1
  · rw [if_neg h0, if_neg h1, if_pos h2, if_neg h0, if_neg h1, if_pos h2]
    simp only [zero_add]
  · rw [if_neg h0, if_neg h1, if_neg h2, if_neg h0, if_neg h1, if_neg h2]
    simp only [add_zero, mul_zero]

theorem sum_dite_padded (x : Fin 16 → Fin 30 → EReal) (w : Fin 30 → EReal) (r : ℕ) :
    (if h : 1 ≤ r ∧ r < 17 then ∑ i, x ⟨r - 1, by omega⟩ i * w i else 0) = ∑ i, padded x r i * w i := by
  unfold padded
  by_cases h : 1 ≤ r ∧ r < 17
  · simp only [dif_pos h]
  · simp only [dif_neg h, zero_mul, Finset.sum_const_zero]

/-- The product of a word with a column of the banded matrix is the convolution, less its bias. -/
theorem band_sum (x : Fin 16 → Fin 30 → EReal) (w : Fin 30 → Fin 30 → Fin 3 → EReal) (b : Fin 30 → EReal) (t : Fin 16)
    (o : Fin 30) (f : Fin 480 → EReal)
    (hf : ∀ (a : Fin 16) (i : Fin 30), f ⟨a.val * 30 + i.val, by omega⟩ = x a i * bandEntry (w o i) a.val t.val) :
    (∑ q, f q) + b o = conv x w b t o := by
  unfold conv
  rw [sum_480]
  simp only [hf, mul_bandEntry, Finset.sum_add_distrib]
  have pull : ∀ (p : ℕ → Prop) [DecidablePred p] (k : Fin 3), (∑ a : Fin 16, ∑ i : Fin 30, if p a.val then x a i * w o i k else 0)
      = ∑ a : Fin 16, if p a.val then ∑ i, x a i * w o i k else 0 := fun p _ k => Finset.sum_congr rfl fun a _ => by
    by_cases h : p a.val
    · simp only [if_pos h]
    · simp only [if_neg h, Finset.sum_const_zero]
  rw [pull (fun a => a + 1 = t.val) 0, pull (fun a => a = t.val) 1, pull (fun a => a = t.val + 1) 2,
    sum_before _ _ t.isLt, sum_at _ _ t.isLt, sum_after _ _ t.isLt]
  rw [sum_dite_padded x (fun i => w o i 0), sum_dite_padded x (fun i => w o i 1), sum_dite_padded x (fun i => w o i 2)]

/-- A balanced tree of maxima over sixteen values is their greatest. -/
theorem tree_eq_sup (y : Fin 16 → EReal) :
    max (max (max (max (y 0) (y 8)) (max (y 4) (y 12))) (max (max (y 2) (y 10)) (max (y 6) (y 14))))
        (max (max (max (y 1) (y 9)) (max (y 5) (y 13))) (max (max (y 3) (y 11)) (max (y 7) (y 15))))
      = Finset.univ.sup y := by
  refine eq_of_forall_ge_iff fun c => ?_
  rw [Finset.sup_le_iff]
  simp only [max_le_iff, Finset.mem_univ, forall_true_left, Fin.forall_fin_succ, Fin.forall_fin_zero_pi, IsEmpty.forall_iff]
  constructor
  · rintro ⟨⟨⟨⟨h0, h8⟩, h4, h12⟩, ⟨h2, h10⟩, h6, h14⟩, ⟨⟨h1, h9⟩, h5, h13⟩, ⟨h3, h11⟩, h7, h15⟩
    exact ⟨h0, h1, h2, h3, h4, h5, h6, h7, h8, h9, h10, h11, h12, h13, h14, h15, trivial⟩
  · rintro ⟨h0, h1, h2, h3, h4, h5, h6, h7, h8, h9, h10, h11, h12, h13, h14, h15, -⟩
    exact ⟨⟨⟨⟨h0, h8⟩, h4, h12⟩, ⟨h2, h10⟩, h6, h14⟩, ⟨⟨h1, h9⟩, h5, h13⟩, ⟨h3, h11⟩, h7, h15⟩

/-- The comparison of two character positions, the first moved by `k`, as a float. -/
theorem eye_before : ∀ a t : Fin 16, IntOp.cmpi .eq (IntOp.addi (BitVec.ofNat 32 a.val) 1#32) (BitVec.ofNat 32 t.val)
    = if a.val + 1 = t.val then 1#1 else 0#1 := by decide

theorem eye_at : ∀ a t : Fin 16, IntOp.cmpi .eq (IntOp.addi (BitVec.ofNat 32 a.val) 0#32) (BitVec.ofNat 32 t.val)
    = if a.val = t.val then 1#1 else 0#1 := by decide

theorem eye_after : ∀ a t : Fin 16, IntOp.cmpi .eq (IntOp.addi (BitVec.ofNat 32 a.val) 4294967295#32) (BitVec.ofNat 32 t.val)
    = if a.val = t.val + 1 then 1#1 else 0#1 := by decide

theorem uitofp_ite (p : Prop) [Decidable p] (x : EReal) :
    @HMul.hMul EReal EReal EReal _ (FloatOps.uitofp (F := Ideal) .f32 (if p then 1#1 else 0#1)) x = if p then x else 0 := by
  by_cases h : p
  · rw [if_pos h, if_pos h]
    show (((1#1 : BitVec 1).toNat : ℝ) : EReal) * x = x
    simp
  · rw [if_neg h, if_neg h]
    show (((0#1 : BitVec 1).toNat : ℝ) : EReal) * x = 0
    simp

theorem sitofp_zero : (FloatOps.sitofp (F := Ideal) .f32 (0#32) : EReal) = 0 := by
  show (((0#32 : BitVec 32).toInt : ℝ) : EReal) = 0
  simp

end Cert.Conv
-- ==== Proof.Texts.lean ====
module

public import proofs.«01_k».proof.Proof.Gather
public import proofs.«01_k».proof.Proof.Conv

/-!
# The input of the first layer as a function of the arguments

Every word of the vocabulary gets thirty numbers from its characters, the row of `table` after a first row of zeros.
`texts` puts the three hundred numbers of a word's embedding and the thirty numbers of its characters side by side.
-/

@[expose] public section
noncomputable section
namespace Cert.Conv
open Idealize.ShloMosaic

/-- An index word below zero counts from the end of a table of `n` rows. -/
def wrap (n i : BitVec 32) : BitVec 32 := Scalar.select (IntOp.cmpi .slt i 0#32) (IntOp.addi i n) i

variable (emb : FVec Ideal ⟨2, ![500, 30]⟩ .f32) (cw : FVec Ideal ⟨3, ![30, 30, 3]⟩ .f32) (cb : FVec Ideal ⟨1, ![30]⟩ .f32)
  (we : FVec Ideal ⟨2, ![50000, 300]⟩ .f32) (chars : IVec ⟨2, ![8192, 16]⟩ 32) (cwi tok : IVec ⟨2, ![64, 256]⟩ 32)

/-- The sixteen characters of word `w`, thirty numbers each. -/
def word (w : Fin 8192) (t : Fin 16) (i : Fin 30) : EReal := emb (ix2 (row 499 (wrap 500#32 (chars (ix2 w t)))) i)

/-- The thirty numbers that the characters of word `w` give. -/
def token (w : Fin 8192) (o : Fin 30) : EReal :=
  best (word emb chars w) (fun o i k => cw (ix3 o i k)) (fun o => cb (ix1 o)) o

/-- The table of those numbers, after a first row of zeros. -/
def table (r : Fin 8193) (o : Fin 30) : EReal := if h : r.val < 1 then 0 else token emb cw cb chars ⟨r.val - 1, by omega⟩ o

/-- The input of the first layer: chunk `n`, step `s` of the chunk, sentence `b`, number `l`. -/
def texts (n : Fin 8) (s : Fin 32) (b : Fin 64) (l : Fin 330) : EReal :=
  if h : l.val < 300 then we (ix2 (row 49999 (wrap 50000#32 (tok (ix2 b ⟨n.val * 32 + s.val, by omega⟩)))) ⟨l.val, h⟩)
  else table emb cw cb chars (row 8192 (wrap 8193#32 (cwi (ix2 b ⟨n.val * 32 + s.val, by omega⟩)))) ⟨l.val - 300, by omega⟩

end Cert.Conv
-- ==== Proof.EntryC.lean ====
module

public import proofs.«01_k».proof.Proof.Gen.Kernel3Ideal.Frame
public import proofs.«01_k».proof.Proof.Texts
public import Idealize.ShloMosaic.Lib.Pointwise
public import Idealize.ShloMosaic.Lib.StableHlo.ReadAt

/-!
# The arrays that the convolution kernel reads

They are written by host operations: the characters of every word in one row of 480 numbers, the banded matrix of
the weights, and the bias repeated for the sixteen positions.
-/

@[expose] public section

set_option maxRecDepth 8192

noncomputable section

namespace Cert.Kernel3Ideal.Conv

open Idealize.ShloMosaic Idealize.ShloMosaic.TcCoe Idealize.SL.Sem Cert.Kernel3Ideal Cert.Kernel3Ideal.Gen
open Cert.Conv

variable (m : (ℓ : Loc nD τ sig) → Buf (Elt Ideal) ℓ) (c : Dev nD)

/-- Row `w` of the first array: the characters of word `w`, one after the other. -/
theorem entry_word (w : Fin 8192) (a : Fin 16) (i : Fin 30) :
    V m c main_v7 (ix2 w ⟨a.val * 30 + i.val, by omega⟩)
      = word (m ((c.tc : Thread nD τ).loc main_arg0)) (m ((c.tc : Thread nD τ).loc main_arg4)) w a i := by
  unfold V V0
  after_reads_at
  refine (gather_rows3 (N := 499) gather_S500x30_S8192x16x1_S8192x16x30_2_0_n_n_0_2_130 rfl rfl rfl rfl rfl rfl rfl _ _ _ _ _).trans ?_
  unfold word
  pointwise
  rfl

/-- The banded matrix. -/
theorem entry_band (a : Fin 16) (i : Fin 30) (t : Fin 16) (o : Fin 30) :
    V m c main_v42 (ix2 ⟨a.val * 30 + i.val, by omega⟩ ⟨t.val * 32 + o.val, by omega⟩)
      = bandEntry (fun k => m ((c.tc : Thread nD τ).loc main_arg1) (ix3 o i k)) a.val t.val := by
  have ha : (a.val * 30 + i.val) / 30 = a.val := by omega
  have hi : (a.val * 30 + i.val) % 30 = i.val := by omega
  have ht : (t.val * 32 + o.val) / 32 = t.val := by omega
  have ho : (t.val * 32 + o.val) % 32 = o.val := by omega
  unfold V V0
  after_reads_at
  simp only [ha, hi, ht, ho, dif_pos o.isLt, eye_before, eye_at, eye_after, uitofp_ite]
  rfl

/-- The bias, repeated for every position. -/
theorem entry_bias (t : Fin 16) (o : Fin 30) :
    V m c main_v47 (ix2 0 ⟨t.val * 32 + o.val, by omega⟩) = m ((c.tc : Thread nD τ).loc main_arg2) (ix1 o) := by
  have ho : (t.val * 32 + o.val) % 32 = o.val := by omega
  unfold V V0
  after_reads_at
  simp only [ho, dif_pos o.isLt]

end Cert.Kernel3Ideal.Conv
-- ==== Proof.ValueC.lean ====
module

public import proofs.«01_k».proof.Proof.EntryC
public import Idealize.ShloMosaic.Lib.Pipeline.ValueKit

/-!
# What the convolution kernel leaves, and the result after the host operations that follow it
-/

@[expose] public section

set_option maxRecDepth 8192

noncomputable section

namespace Cert.Kernel3Ideal.Conv

open Idealize.ShloMosaic Idealize.ShloMosaic.TcCoe Idealize.SL.Sem Cert.Kernel3Ideal Cert.Kernel3Ideal.Gen
open Idealize.ShloMosaic.Pipeline (Dat)
open Cert.Conv

variable (m : (ℓ : Loc nD τ sig) → Buf (Elt Ideal) ℓ) (c : Dev nD)

/-- The value at position `t` before the maximum is taken: a row against one column, the bias, and zero if that is greater. -/
def lane (x0 : Vec Ideal S512x480 .f32) (x1 : Vec Ideal S480x512 .f32) (x2 : Vec Ideal S1x512 .f32) (r : Fin 512)
    (o : Fin 32) (t : Fin 16) : EReal :=
  max ((∑ q, x0 (ix2 r q) * x1 (ix2 q ⟨t.val * 32 + o.val, by omega⟩)) + x2 (ix2 0 ⟨t.val * 32 + o.val, by omega⟩)) 0

theorem lane_at (x0 : Vec Ideal S512x480 .f32) (x1 : Vec Ideal S480x512 .f32) (x2 : Vec Ideal S1x512 .f32) (r : Fin 512)
    (o : Fin 32) (t : Fin 16) (j : Fin 512) (hj : j.val = t.val * 32 + o.val) :
    max ((∑ q, x0 (ix2 r q) * x1 (ix2 q j)) + x2 (ix2 0 j)) 0 = lane x0 x1 x2 r o t := by
  have e : j = ⟨t.val * 32 + o.val, by omega⟩ := Fin.ext hj
  rw [e]
  rfl

set_option maxHeartbeats 4000000 in
/-- The stored block: row by row the greatest of the sixteen values. -/
theorem pay_apply (x0 : Vec Ideal S512x480 .f32) (x1 : Vec Ideal S480x512 .f32) (x2 : Vec Ideal S1x512 .f32) (r : Fin 512)
    (o : Fin 32) : k0_pay1 (F := Ideal) x0 x1 x2 (ix2 r o) = Finset.univ.sup (lane x0 x1 x2 r o) := by
  unfold k0_pay1
  clean_types
  pointwise
  rw [← tree_eq_sup]
  refine congrArg₂ max (congrArg₂ max (congrArg₂ max (congrArg₂ max ?_ ?_) (congrArg₂ max ?_ ?_)) (congrArg₂ max (congrArg₂ max ?_ ?_) (congrArg₂ max ?_ ?_)))
    (congrArg₂ max (congrArg₂ max (congrArg₂ max ?_ ?_) (congrArg₂ max ?_ ?_)) (congrArg₂ max (congrArg₂ max ?_ ?_) (congrArg₂ max ?_ ?_)))
  all_goals
    refine lane_at _ _ _ _ _ _ _ ?_
    dsimp only
    omega

theorem index0 : ∀ (t : Fin cfg0.N) a, win0_0.index t a = ![t.val, 0] a :=
  (by decide +kernel : ∀ (t : Fin grid0.N) a, win0_0.index t a = ![t.val, 0] a)
theorem index1 : ∀ (t : Fin cfg0.N) a, win0_1.index t a = 0 := (by decide +kernel : ∀ (t : Fin grid0.N) a, win0_1.index t a = 0)
theorem index2 : ∀ (t : Fin cfg0.N) a, win0_2.index t a = 0 := (by decide +kernel : ∀ (t : Fin grid0.N) a, win0_2.index t a = 0)
theorem index3 : ∀ (t : Fin cfg0.N) a, win0_3.index t a = ![t.val, 0] a :=
  (by decide +kernel : ∀ (t : Fin grid0.N) a, win0_3.index t a = ![t.val, 0] a)

theorem point_lt (t : Fin cfg0.N) : t.val < 16 := lt_of_lt_of_eq t.isLt N_0

theorem block0 (t : Fin cfg0.N) (r : Fin 512) (q : Fin 480) :
    iblk m c 0 t (ix2 r q) = V m c main_v7 (ix2 ⟨t.val * 512 + r.val, by have := point_lt t; omega⟩ q) := by
  blk_ext [iblk, index0]

theorem block1 (t : Fin cfg0.N) (q : Fin 480) (j : Fin 512) : iblk m c 1 t (ix2 q j) = V m c main_v42 (ix2 q j) := by
  blk_ext [iblk, index1]

theorem block2 (t : Fin cfg0.N) (j : Fin 512) : iblk m c 2 t (ix2 0 j) = V m c main_v47 (ix2 0 j) := by
  blk_ext [iblk, index2]

/-- The numbers of word `w` as the arguments of device `c` give them. -/
def tokenAt (w : Fin 8192) (o : Fin 30) : EReal :=
  token (m ((c.tc : Thread nD τ).loc main_arg0)) (m ((c.tc : Thread nD τ).loc main_arg1))
    (m ((c.tc : Thread nD τ).loc main_arg2)) (m ((c.tc : Thread nD τ).loc main_arg4)) w o

/-- The greatest value of a row of a block is the number of the word that the row holds. -/
theorem sup_lane (t : Fin cfg0.N) (r : Fin 512) (o : Fin 30) :
    Finset.univ.sup (lane (iblk m c 0 t) (iblk m c 1 t) (iblk m c 2 t) r ⟨o.val, by omega⟩)
      = tokenAt m c ⟨t.val * 512 + r.val, by have := point_lt t; omega⟩ o := by
  unfold tokenAt token best
  refine Finset.sup_congr rfl fun p _ => ?_
  unfold lane
  refine congrArg (fun z : EReal => max z 0) ?_
  rw [block2, entry_bias m c p o]
  refine band_sum _ _ (fun o => m ((c.tc : Thread nD τ).loc main_arg2) (ix1 o)) p o _ fun a i => ?_
  rw [block0, block1, entry_word, entry_band]

/-- The kernel's output array: row `w` holds the numbers of word `w`, and two columns that nothing reads. -/
theorem out_apply (w : Fin 8192) (o : Fin 30) :
    (dats m 0 c).arrAt 3 cfg0.N (ix2 w ⟨o.val, by omega⟩) = tokenAt m c w o := by
  refine (Dat.arrAt_forall_of_covers (dats m 0 c) 3
    (fun i v => ∀ o : Fin 30, (i 1 : ℕ) = o.val → v = tokenAt m c (i 0) o) (by decide +kernel) (fun t hf y o ho => ?_) _) o rfl
  blk_simp
  rw [after0_3]
  frame_out
  have e1 : (y 1 : ℕ) = o.val := by
    rw [← ho]
    blk_simp [index3]
  have e0 : (((win0_3.blk t).view.emb y) 0 : ℕ) = t.val * 512 + (y 0 : ℕ) := by blk_simp [index3]
  obtain ⟨r, j, rfl⟩ : ∃ r j, y = ix2 r j := ⟨y 0, y 1, eq_ix2 y⟩
  have ej : j = ⟨o.val, by omega⟩ := Fin.ext e1
  refine (pay_apply _ _ _ r j).trans (Eq.trans ?_ ((sup_lane m c t r o).trans ?_))
  · rw [ej]
  · exact congrArg (fun w => tokenAt m c w o) (Fin.ext e0.symm)

/-- The buffers as the host operations after the kernel find them. -/
abbrev W : Valuation τ sig (Elt Ideal) :=
  Pipeline.withArrays (cfgs 0).spec c (V0 m c) fun w => (dats m 0 c).arrAt w (cfgs 0).N

theorem W_out : W m c (Proc.devRef .tc main_v48) = (dats m 0 c).arrAt 3 cfg0.N :=
  Pipeline.withArrays_arr (cfgs 0).spec (by decide) c (V0 m c) (fun w => (dats m 0 c).arrAt w (cfgs 0).N) 3

theorem W_arg3 : W m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)

theorem W_arg5 : W m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)

theorem W_arg6 : W m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)

/-- The result, from the buffers after the kernel. -/
theorem tail_apply (V : Valuation τ sig (Elt Ideal)) (T : Fin 8193 → Fin 30 → EReal)
    (hT : ∀ r o, T r o = if h : r.val < 1 then (0 : EReal) else V (Proc.devRef .tc main_v48) (ix2 ⟨r.val - 1, by omega⟩ ⟨o.val, by omega⟩))
    (n : Fin 8) (s : Fin 32) (b : Fin 64) (l : Fin 330) :
    StableHlo.after (hostOps1 (F := Ideal)) V (Proc.devRef .tc main_v71) (ix4 n s b l)
      = if h : l.val < 300 then
          V (Proc.devRef .tc main_arg3) (ix2 (row 49999 (wrap 50000#32 (V (Proc.devRef .tc main_arg6) (ix2 b ⟨n.val * 32 + s.val, by omega⟩)))) ⟨l.val, h⟩)
        else T (row 8192 (wrap 8193#32 (V (Proc.devRef .tc main_arg5) (ix2 b ⟨n.val * 32 + s.val, by omega⟩)))) ⟨l.val - 300, by omega⟩ := by
  after_reads_at
  by_cases h : l.val < 300
  · rw [dif_pos h, dif_pos h]
    after_reads_simp
    refine gather_rows4_of (N := 49999) gather_S50000x300_S8x32x64x1_S8x32x64x300_3_0_n_n_0_3_1300 rfl rfl rfl rfl rfl rfl rfl
      _ _ _ _ _ _ (fun r o => V (Proc.devRef .tc main_arg3) (ix2 r o)) _ (fun r o => rfl) ?_
    clean_types
    pointwise
    rfl
  · rw [dif_neg h, dif_neg h]
    after_reads_simp
    refine gather_rows4_of (N := 8192) gather_S8193x30_S8x32x64x1_S8x32x64x30_3_0_n_n_0_3_130 rfl rfl rfl rfl rfl rfl rfl
      _ _ _ _ _ _ T _ (fun r o => ?_) ?_
    · clean_types
      pointwise
      rw [hT]
      by_cases hr : r.val < 1
      · rw [dif_pos hr, dif_pos hr]
        after_reads_at
      · rw [dif_neg hr, dif_neg hr]
        after_reads_at
    · clean_types
      pointwise
      rfl

/-- The result of the program is `texts` of the arguments. -/
theorem result (n : Fin 8) (s : Fin 32) (b : Fin 64) (l : Fin 330) :
    Pipeline.afterTail₀ cfgs (dats m) 0 (V0 m) [hostOps1] c main_v71 (ix4 n s b l)
      = texts (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) n s b l := by
  refine (tail_apply (W m c) (table (m ((c.tc : Thread nD τ).loc main_arg0)) (m ((c.tc : Thread nD τ).loc main_arg1))
    (m ((c.tc : Thread nD τ).loc main_arg2)) (m ((c.tc : Thread nD τ).loc main_arg4))) (fun r o => ?_) n s b l).trans ?_
  · unfold table
    by_cases hr : r.val < 1
    · rw [dif_pos hr, dif_pos hr]
    · rw [dif_neg hr, dif_neg hr, W_out]
      exact (out_apply m c ⟨r.val - 1, by omega⟩ o).symm
  · rw [W_arg3, W_arg5, W_arg6]
    rfl

end Cert.Kernel3Ideal.Conv
-- ==== Proof.RefC.lean ====
module

public import proofs.«01_k».proof.Proof.Gen.Reference3Ideal.Run
public import proofs.«01_k».proof.Proof.Texts
public import Idealize.ShloMosaic.Lib.Pointwise
public import Idealize.ShloMosaic.Lib.StableHlo.ReadAt
public import Idealize.ShloMosaic.PureOps.Reduce
public import Idealize.ShloMosaic.PureOps.Ideal.Laws

/-!
# The result of the reference of the character convolution, on extended reals
-/

@[expose] public section

set_option maxRecDepth 8192

noncomputable section

namespace Cert.Reference3Ideal.Conv

open Idealize.ShloMosaic Idealize.ShloMosaic.TcCoe Idealize.SL.Sem Cert.Reference3Ideal Cert.Reference3Ideal.Value
open Cert.Conv

variable (m : (ℓ : Loc nD τ sig) → Buf (Elt Ideal) ℓ) (c : Dev nD)

/-- The characters of the words, looked up in their table. -/
def chars : FVec Ideal S8192x16x30 .f32 :=
  Host.gather gather_S500x30_S8192x16x1_S8192x16x30_2_0_n_n_0_2_130 (m (c.tc.loc main_arg0))
    (broadcastInDim S8192x16x1 ![0, 1] Gen.bcast_S8192x16_S8192x16x1_0_1
      (select (cmpi .slt (m (c.tc.loc main_arg4)) (broadcastInDim S8192x16 ![] Gen.bcast_S_S8192x16 (constantI S_ 32 0#32)))
        (addi (m (c.tc.loc main_arg4)) (broadcastInDim S8192x16 ![] Gen.bcast_S_S8192x16 (constantI S_ 32 500#32)))
        (m (c.tc.loc main_arg4))))

theorem chars_apply (w : Fin 8192) (t : Fin 16) (i : Fin 30) :
    chars m c (ix3 w t i) = word (m (c.tc.loc main_arg0)) (m (c.tc.loc main_arg4)) w t i := by
  refine (gather_rows3 (N := 499) gather_S500x30_S8192x16x1_S8192x16x30_2_0_n_n_0_2_130 rfl rfl rfl rfl rfl rfl rfl _ _ _ _ _).trans ?_
  clean_types
  pointwise
  rfl

theorem fold_eq_sup (f : Fin 16 → EReal) :
    Finset.fold max (Ideal.ofBits FTy.f32 4286578688#32) f Finset.univ = Finset.univ.sup f := by
  have h : Ideal.ofBits FTy.f32 4286578688#32 = (⊥ : EReal) := by simp [Ideal.ofBits, Ideal.ieee]
  rw [h]
  rfl

/-- The greatest value over the positions, as the reference spells it. -/
theorem fold_eq_best (x : Fin 16 → Fin 30 → EReal) (w : Fin 30 → Fin 30 → Fin 3 → EReal) (b : Fin 30 → EReal) (o : Fin 30) :
    Finset.fold max (Ideal.ofBits FTy.f32 4286578688#32)
        (fun t : Fin 16 => max
          ((∑ i, (if h : 1 ≤ t.val ∧ t.val - 1 < 16 then x ⟨t.val - 1, h.2⟩ i else (FloatOps.sitofp (F := Ideal) FTy.f32 0#32 : EReal)) * w o i 0)
            + (∑ i, x t i * w o i 1)
            + (∑ i, (if h : 1 ≤ 2 + t.val ∧ 2 + t.val - 1 < 16 then x ⟨2 + t.val - 1, h.2⟩ i else (FloatOps.sitofp (F := Ideal) FTy.f32 0#32 : EReal)) * w o i 2)
            + b o) 0) Finset.univ
      = best x w b o := by
  rw [fold_eq_sup]
  unfold best conv padded
  refine Finset.sup_congr rfl fun t _ => ?_
  have ht := t.isLt
  refine congrArg (fun z : EReal => max (z + b o) 0) (congrArg₂ (fun y z : EReal => y + z)
    (congrArg₂ (fun y z : EReal => y + z) ?_ ?_) ?_)
  · refine Finset.sum_congr rfl fun i _ => ?_
    by_cases h : 1 ≤ t.val
    · rw [dif_pos (by omega), dif_pos (by omega)]
    · rw [dif_neg (by omega), dif_neg (by omega)]
      exact congrArg (· * w o i 0) sitofp_zero
  · refine Finset.sum_congr rfl fun i _ => ?_
    rw [dif_pos (by omega)]
    rfl
  · refine Finset.sum_congr rfl fun i _ => ?_
    by_cases h : t.val + 1 < 16
    · rw [dif_pos (by omega), dif_pos (by omega)]
      have e : (⟨2 + t.val - 1, by omega⟩ : Fin 16) = ⟨t.val + 2 - 1, by omega⟩ := Fin.ext (by show 2 + t.val - 1 = t.val + 2 - 1; omega)
      rw [e]
    · rw [dif_neg (by omega), dif_neg (by omega)]
      exact congrArg (· * w o i 2) sitofp_zero

set_option maxHeartbeats 4000000 in
/-- The result of the reference is `texts` of its arguments. -/
theorem result (n : Fin 8) (s : Fin 32) (b : Fin 64) (l : Fin 330) :
    res_main_v48 m c (ix4 n s b l)
      = texts (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) n s b l := by
  unfold res_main_v48
  clean_types
  pointwise
  unfold texts
  by_cases h : l.val < 300
  · rw [dif_pos h, dif_pos h]
    refine gather_rows3_of (N := 49999) gather_S50000x300_S64x256x1_S64x256x300_2_0_n_n_0_2_1300 rfl rfl rfl rfl rfl rfl rfl
      _ _ _ _ _ (fun r o => m (c.tc.loc main_arg3) (ix2 r o)) _ (fun r o => rfl) ?_
    clean_types
    pointwise
    rfl
  · rw [dif_neg h, dif_neg h]
    refine gather_rows3_of (N := 8192) gather_S8193x30_S64x256x1_S64x256x30_2_0_n_n_0_2_130 rfl rfl rfl rfl rfl rfl rfl
      _ _ _ _ _ (table (m (c.tc.loc main_arg0)) (m (c.tc.loc main_arg1)) (m (c.tc.loc main_arg2)) (m (c.tc.loc main_arg4)))
      _ (fun r o => ?_) ?_
    · clean_types
      pointwise
      unfold table
      by_cases hr : r.val < 1
      · rw [dif_pos hr]
        rw [dif_pos hr]
      · rw [dif_neg hr]
        refine Eq.trans ?_ (dif_neg hr).symm
        refine (fold_eq_best (fun t i => chars m c (ix3 ⟨r.val - 1, by omega⟩ t i))
          (fun o i k => m (c.tc.loc main_arg1) (ix3 o i k)) (fun o => m (c.tc.loc main_arg2) (ix1 o)) o).trans ?_
        unfold token
        congr 1
        funext t i
        exact chars_apply m c _ t i
    · clean_types
      pointwise
      rfl

end Cert.Reference3Ideal.Conv
-- ==== Proof.MatchC.lean ====
module

public import proofs.«01_k».proof.Defs
public import proofs.«01_k».proof.Proof.ValueC
public import proofs.«01_k».proof.Proof.RefC
public import Idealize.ShloMosaic.Lib.QuiescentFlight

/-!
# The character convolution and its reference give the same results on extended reals
-/

@[expose] public section

noncomputable section

namespace Cert.Kernel3Ideal.Conv

open Idealize.ShloMosaic Idealize.ShloMosaic.TcCoe Idealize.SL.Sem Cert.Kernel3Ideal Cert.Kernel3Ideal.Gen

/-- The result array of the program. -/
def out (m : (ℓ : Loc nD τ sig) → Buf (Elt Ideal) ℓ) (c : Dev nD) : Buf (Elt Ideal) ((c.tc : Thread nD τ).loc main_v71) :=
  Pipeline.afterTail₀ cfgs (dats m) 0 (V0 m) [hostOps1] c main_v71

/-- The run of the program: its result is `out`, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v71) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun _ h c => ⟨(h.1 c).2 main_v71 (Pipeline.mem_restRefs_of main_v71 (by decide) (by decide)), h.2 c⟩)
    (θ_run_and (run_main m ρ) (unchanged m ρ))

end Cert.Kernel3Ideal.Conv

namespace Cert.Reference3Ideal.Conv

open Idealize.ShloMosaic Idealize.SL.Sem

/-- The reference terminates, keeps its arguments and leaves no semaphore raised. -/
theorem frame : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run m g)

/-- From memories that agree on the arguments both programs end with the same result. -/
theorem agree : Cert.algebraic_Kernel3Ideal_Reference3Ideal := by
  intro m g m' g' _ hm
  refine ⟨fun c => Cert.Kernel3Ideal.Conv.out m c, Cert.Kernel3Ideal.Conv.run m g, ?_⟩
  refine (θ_run Cert.Reference3Ideal.defs _ _).mono (fun r h c => ?_) (Cert.Reference3Ideal.Value.run m' g')
  refine ⟨(h c).1.trans ?_, (h c).2⟩
  funext j
  obtain ⟨j0, j1, j2, j3, rfl⟩ : ∃ a b i l, j = ix4 a b i l := ⟨j 0, j 1, j 2, j 3, eq_ix4 j⟩
  refine (result m' c j0 j1 j2 j3).trans (Eq.trans ?_ (Cert.Kernel3Ideal.Conv.result m c j0 j1 j2 j3).symm)
  obtain ⟨h0, h1, h2, h3, h4, h5, h6⟩ := hm c
  erw [h0, h1, h2, h3, h4, h5, h6]

end Cert.Reference3Ideal.Conv
-- ==== Proof.EntryD.lean ====
module

public import proofs.«01_k».proof.Proof.Gen.Kernel4Ideal.Frame
public import Idealize.ShloMosaic.Lib.StableHlo.ReadAt
public import Idealize.ShloMosaic.Lib.Pipeline.ValueKit
public import Idealize.ShloMosaic.Lib.Pointwise

/-!
# The second output of the call with the MLP and the CRF

Each of its 128 lanes holds the sum of the sequence lengths. The program returns the first lane.
-/

@[expose] public section

set_option maxRecDepth 8192

noncomputable section

namespace Cert.Kernel4Ideal.Count

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ) (c : Dev nD)

/-- The length of sequence `b`, as device `c` is given it. -/
def len (b : Fin 64) : BitVec 32 := m ((c.tc : Thread nD τ).loc main_arg2) (ix1 b)

/-- The call's third argument holds the length of sequence `b` in every lane of row `b`. -/
theorem entry_len (b : Fin 64) (l : Fin 128) : V m c main_v4 (ix2 b l) = (((len m c b).toInt : ℝ) : EReal) := by
  unfold V V0
  after_reads_at
  rfl

/-- The stored block: lane by lane the sum of the rows. -/
theorem pay_apply (x : Vec Ideal S64x128 .f32) (l : Fin 128) :
    k0_pay30 (F := Ideal) x (ix2 0 l) = ∑ b, (x (ix2 b l) : EReal) := by
  unfold k0_pay30
  clean_types
  pointwise

/-- The lengths as the body reads them. -/
theorem length_apply (x : Vec Ideal S64x128 .f32) (b : Fin 64) (l : Fin 128) :
    k0_pay23 (F := Ideal) x (ix2 b l) = x (ix2 b l) := by
  unfold k0_pay23
  clean_types
  pointwise

/-- The third argument is one block. -/
theorem index2 : ∀ (t : Fin cfg0.N) a, win0_2.index t a = 0 := (by decide +kernel : ∀ (t : Fin grid0.N) a, win0_2.index t a = 0)

theorem block2 (t : Fin cfg0.N) (b : Fin 64) (l : Fin 128) : iblk m c 2 t (ix2 b l) = V m c main_v4 (ix2 b l) := by
  blk_ext [iblk, index2]

/-- The call's second output: every lane holds the sum of the lengths. -/
theorem out_apply (l : Fin 128) :
    (dats m 0 c).arrAt 12 cfg0.N (ix2 0 l) = ∑ b, (((len m c b).toInt : ℝ) : EReal) := by
  refine Dat.arrAt_forall_of_covers (dats m 0 c) 12
    (fun _ v => v = ∑ b, (((len m c b).toInt : ℝ) : EReal)) (by decide +kernel) (fun t hf y => ?_) _
  blk_simp
  rw [after0_12]
  unfold outsAt0
  frame_out
  obtain ⟨r, j, rfl⟩ : ∃ r j, y = ix2 r j := ⟨y 0, y 1, eq_ix2 y⟩
  obtain rfl : r = 0 := Subsingleton.elim _ _
  refine (pay_apply _ j).trans (Finset.sum_congr rfl fun b _ => ?_)
  rw [length_apply, block2, entry_len]

/-- The buffers as the host operations after the kernel find them. -/
abbrev W : Valuation τ sig (Elt Ideal) :=
  Pipeline.withArrays (cfgs 0).spec c (V0 m c) fun w => (dats m 0 c).arrAt w (cfgs 0).N

theorem W_out : W m c (Proc.devRef .tc main_v26_1) = (dats m 0 c).arrAt 12 cfg0.N :=
  Pipeline.withArrays_arr (cfgs 0).spec (by decide) c (V0 m c) (fun w => (dats m 0 c).arrAt w (cfgs 0).N) 12

/-- The result, from the buffers after the kernel. -/
theorem tail_apply (X : Valuation τ sig (Elt Ideal)) (j : S_.Idx) :
    StableHlo.after (hostOps1 (F := Ideal)) X (Proc.devRef .tc main_v28) j = X (Proc.devRef .tc main_v26_1) (ix2 0 0) := by
  obtain rfl : j = ix0 := (ix0_eta j).symm
  after_reads_at

/-- The result of the program is the sum of the lengths. -/
theorem result (j : S_.Idx) :
    Pipeline.afterTail₀ cfgs (dats m) 0 (V0 m) [hostOps1] c main_v28 j = ∑ b, (((len m c b).toInt : ℝ) : EReal) := by
  refine (tail_apply (W m c) j).trans ?_
  rw [W_out]
  exact out_apply m c 0

end Cert.Kernel4Ideal.Count
-- ==== Proof.MatchD.lean ====
module

public import proofs.«01_k».proof.Defs
public import proofs.«01_k».proof.Proof.EntryD
public import proofs.«01_k».proof.Proof.Gen.Reference4Ideal.Run
public import proofs.«01_k».proof.Proof.Gen.Pre_lengths
public import Idealize.ShloMosaic.Lib.ReduceAll

/-!
# The number of tokens: the kernel's sum of the lengths and the reference's sum of the mask
-/

@[expose] public section

set_option maxRecDepth 8192

noncomputable section

namespace Cert.Kernel4Ideal.Count

open Idealize.ShloMosaic Idealize.ShloMosaic.TcCoe Idealize.SL.Sem Cert.Kernel4Ideal Cert.Kernel4Ideal.Gen

/-- The result of the program. -/
def out (m : (ℓ : Loc nD τ sig) → Buf (Elt Ideal) ℓ) (c : Dev nD) : Buf (Elt Ideal) ((c.tc : Thread nD τ).loc main_v28) :=
  Pipeline.afterTail₀ cfgs (dats m) 0 (V0 m) [hostOps1] c main_v28

/-- The run of the program: its result is `out`, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v28) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono
    (fun _ h c => ⟨(h.1 c).2 main_v28 (Pipeline.mem_restRefs_of main_v28 (by decide) (by decide)), h.2 c⟩)
    (θ_run_and (run_main m ρ) (unchanged m ρ))

/-- The precondition says of each length that it lies between 0 and the number of steps. -/
theorem len_range (m : (ℓ : Loc nD τ sig) → Buf (Elt Ideal) ℓ) (h : Cert.Pre_Kernel4Ideal_lengths m) (c : Dev nD)
    (b : Fin 64) : 0 ≤ (len m c b).toInt ∧ (len m c b).toInt ≤ 256 := by
  obtain ⟨e0, e1⟩ := IntOp.andi_eq_one.1 (Host.reduce_andi_all _ _ _ _ ix0 (congrFun (h c) ix0) (ix1 b))
  exact ⟨IntOp.cmpi_sge.1 e0, IntOp.cmpi_sle.1 e1⟩

end Cert.Kernel4Ideal.Count

namespace Cert.Reference4Ideal.Count

open Idealize.ShloMosaic Idealize.ShloMosaic.TcCoe Idealize.SL.Sem Cert.Reference4Ideal Cert.Reference4Ideal.Value

/-- A sum of natural numbers, taken over the extended reals. -/
theorem sum_coe {n : ℕ} (f : Fin n → ℕ) : ∑ s, ((f s : ℝ) : EReal) = (((∑ s, f s : ℕ) : ℝ) : EReal) := by
  induction n with
  | zero => simp
  | succ n ih => rw [Fin.sum_univ_castSucc, Fin.sum_univ_castSucc, ih, Nat.cast_add, EReal.coe_add]

/-- A number of steps from 0 to 256 is how many of the 256 steps lie below it. -/
theorem sum_below (n : BitVec 32) (h0 : 0 ≤ n.toInt) (h1 : n.toInt ≤ 256) :
    ∑ s : Fin 256, (FloatOps.uitofp (F := Ideal) .f32 (IntOp.cmpi .slt (BitVec.ofNat 32 s.val) n) : EReal)
      = ((n.toInt : ℝ) : EReal) := by
  have term : ∀ s : Fin 256, (FloatOps.uitofp (F := Ideal) .f32 (IntOp.cmpi .slt (BitVec.ofNat 32 s.val) n) : EReal)
      = (((if s.val < n.toInt.toNat then 1 else 0 : ℕ) : ℝ) : EReal) := by
    intro s
    have hs : (BitVec.ofNat 32 s.val).toInt = (s.val : ℤ) := by
      have := s.isLt
      rw [BitVec.toInt_ofNat']
      exact Int.bmod_eq_of_le (by omega) (by omega)
    by_cases h : s.val < n.toInt.toNat
    · rw [if_pos h, IntOp.cmpi_slt.2 (by rw [hs]; omega)]
      rfl
    · have hc : IntOp.cmpi .slt (BitVec.ofNat 32 s.val) n = 0#1 := by
        refine (BitVec.eq_zero_or_eq_one _).resolve_right fun e => ?_
        have := IntOp.cmpi_slt.1 e
        rw [hs] at this
        omega
      rw [if_neg h, hc]
      rfl
  have count : ∑ s : Fin 256, (if s.val < n.toInt.toNat then 1 else 0 : ℕ) = n.toInt.toNat := by
    rw [Fin.sum_univ_eq_sum_range (fun s => if s < n.toInt.toNat then 1 else 0) 256, Finset.sum_boole]
    have e : (Finset.range 256).filter (fun s => s < n.toInt.toNat) = Finset.range n.toInt.toNat := by
      ext s
      simp only [Finset.mem_filter, Finset.mem_range]
      omega
    rw [e, Finset.card_range]
    rfl
  rw [Finset.sum_congr rfl fun s _ => term s, sum_coe, count]
  have e : ((n.toInt.toNat : ℤ) : ℝ) = (n.toInt : ℝ) := by rw [Int.toNat_of_nonneg h0]
  rw [← e]
  rfl

/-- The reference terminates, keeps its arguments and leaves no semaphore raised. -/
theorem frame : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run m g)

/-- The sum of the mask is the sum of the lengths. -/
theorem mask_sum (x : IVec S64 32) (h : ∀ b, 0 ≤ (x (ix1 b)).toInt ∧ (x (ix1 b)).toInt ≤ 256) (j : S_.Idx) :
    Host.reduceAdd (F := Ideal) (uitofp .f32 (cmpi .slt (broadcastInDim S64x256 ![0, 1] Gen.bcast_S1x256_S64x256_0_1 (broadcastInDim S1x256 ![1] Gen.bcast_S256_S1x256_1 (iotaInDim S256 32 0))) (broadcastInDim S64x256 ![0, 1] Gen.bcast_S64x1_S64x256_0_1 (broadcastInDim S64x1 ![0] Gen.bcast_S64_S64x1_0 x)))) (constant S_ .f32 0x00000000#32) Gen.reducesTo_S64x256_S_d0_1 Gen.h_S_ j
      = ∑ b, (((x (ix1 b)).toInt : ℝ) : EReal) := by
  refine (Ideal.hostReduceAdd_total _ (fun b => b.elim0) _ _ j).trans ?_
  have hz : (constant (F := Ideal) S_ .f32 0x00000000#32 (Shape.Idx.first Gen.h_S_) : EReal) = 0 := by
    show Ideal.ofBits .f32 0x00000000#32 = (0 : EReal)
    simp [Ideal.ofBits, Ideal.ieee]
  rw [hz, zero_add]
  refine (sum_idx2 _).trans (Finset.sum_congr rfl fun b _ => ?_)
  refine (Finset.sum_congr rfl fun s _ => ?_).trans (sum_below (x (ix1 b)) (h b).1 (h b).2)
  clean_types
  pointwise

/-- From memories that agree on the arguments, with lengths in range, both programs end with the same result. -/
theorem agree : Cert.algebraic_Kernel4Ideal_Reference4Ideal_pre_lengths := by
  intro m g m' g' hp hm
  refine ⟨fun c => Cert.Kernel4Ideal.Count.out m c, Cert.Kernel4Ideal.Count.run m g, ?_⟩
  refine (θ_run Cert.Reference4Ideal.defs _ _).mono (fun r h c => ?_) (Cert.Reference4Ideal.Value.run m' g')
  refine ⟨(h c).1.trans ?_, (h c).2⟩
  funext j
  obtain ⟨-, -, h2, -⟩ := hm c
  refine Eq.trans ?_ (Cert.Kernel4Ideal.Count.result m c j).symm
  erw [h2]
  exact mask_sum _ (fun b => Cert.Kernel4Ideal.Count.len_range m hp c b) j

end Cert.Reference4Ideal.Count
-- ==== Proof.lean ====
/- The proof of the claims about the two recurrent layers, the character convolution and the number of
   tokens. -/
module

public import proofs.«01_k».proof.Defs
public import proofs.«01_k».proof.Proof.BitsA
public import proofs.«01_k».proof.Proof.FrameA
public import proofs.«01_k».proof.Proof.MatchA
public import proofs.«01_k».proof.Proof.BitsB
public import proofs.«01_k».proof.Proof.FrameB
public import proofs.«01_k».proof.Proof.MatchB
public import proofs.«01_k».proof.Proof.Gen.Kernel3.Frame
public import proofs.«01_k».proof.Proof.Gen.Kernel3Ideal.Frame
public import proofs.«01_k».proof.Proof.Gen.Reference3Ideal.Run
public import proofs.«01_k».proof.Proof.MatchC
public import proofs.«01_k».proof.Proof.MatchD
public import proofs.«01_k».proof.Proof.Gen.Kernel4.Frame
public import proofs.«01_k».proof.Proof.Gen.Pre_lengths
public import proofs.«01_k».proof.Proof.Gen.Kernel4Ideal.Frame
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- All claims, in the order in which they are stated. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_lengths.Gen.facts,
  Cert.Kernel.Layer.frame,
  fun m g _ => Cert.KernelIdeal.Layer.frame (F := Ideal) m g,
  Cert.ReferenceIdeal.Layer.frame,
  Cert.Kernel2.Layer.frame,
  fun m g _ => Cert.Kernel2Ideal.Layer.frame (F := Ideal) m g,
  Cert.Reference2Ideal.Layer.frame,
  fun m g _ => Cert.Kernel3.Gen.frame (F := Bits) m g,
  fun m g _ => Cert.Kernel3Ideal.Gen.frame (F := Ideal) m g,
  Cert.Reference3Ideal.Conv.frame,
  fun m g _ => Cert.Kernel4.Gen.frame (F := Bits) m g,
  fun m g _ => Cert.Kernel4Ideal.Gen.frame (F := Ideal) m g,
  fun m g _ => Cert.Kernel4Ideal.Gen.frame (F := Ideal) m g,
  Cert.Reference4Ideal.Count.frame,
  fun m g _ => Cert.Reference4Ideal.Count.frame m g trivial,
  trivial,
  Cert.ReferenceIdeal.Layer.agree,
  trivial,
  Cert.Reference2Ideal.Layer.agree,
  trivial,
  Cert.Reference3Ideal.Conv.agree,
  trivial,
  Cert.Reference4Ideal.Count.agree⟩

end Cert.Proof

end
